-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_tables_ok : Cert.Pre_tables_ok.Facts] (m : (ℓ : Loc Cert.Experts.nD Cert.Experts.τ Cert.Experts.sig) → Buf (Elt Bits) ℓ) : Prop :=
  ∀ c : Dev Cert.Experts.nD,
    (Cert.Pre_tables_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables_ok : Cert.Pre_tables_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables_ok [hPre_tables_ok : Cert.Pre_tables_ok.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_ok.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Experts [hExperts : Cert.Experts.Facts] [hPre_tables_ok : Cert.Pre_tables_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables_ok : Cert.Pre_tables_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_tables_ok [hExpertsRefIdeal : Cert.ExpertsRefIdeal.Facts] [hPre_tables_ok : Cert.Pre_tables_ok.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables_ok m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v21_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Experts_ExpertsIdeal : Prop :=
  True

def algebraic_ExpertsIdeal_ExpertsRefIdeal_on_used_rows [hExpertsIdeal : Cert.ExpertsIdeal.Facts] [hExpertsRefIdeal : Cert.ExpertsRefIdeal.Facts] [hPre_tables_ok : Cert.Pre_tables_ok.Facts] [hOn_used_rows : Cert.On_used_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![70144, 1024]⟩ : Shape).Idx, (Cert.On_used_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v4) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          (∀ i : (⟨2, ![70144, 1024]⟩ : Shape).Idx, (Cert.On_used_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsRefIdeal.nD Cert.ExpertsRefIdeal.τ).loc Cert.ExpertsRefIdeal.main_v122) i = v0 c i)
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v17)) (v1 : (c : Dev Cert.ProjectIdeal.nD) → Buf (Elt Ideal) ((c.tc : Thread Cert.ProjectIdeal.nD Cert.ProjectIdeal.τ).loc Cert.ProjectIdeal.main_v18)) (v2 : (c : Dev Cert.ProjectIdeal.nD) → Buf (Elt Ideal) ((c.tc : Thread Cert.ProjectIdeal.nD Cert.ProjectIdeal.τ).loc Cert.ProjectIdeal.main_v19)) (v3 : (c : Dev Cert.ProjectIdeal.nD) → Buf (Elt Ideal) ((c.tc : Thread Cert.ProjectIdeal.nD Cert.ProjectIdeal.τ).loc Cert.ProjectIdeal.main_v20)) (v4 : (c : Dev Cert.ProjectIdeal.nD) → Buf (Elt Ideal) ((c.tc : Thread Cert.ProjectIdeal.nD Cert.ProjectIdeal.τ).loc Cert.ProjectIdeal.main_v21)) (v5 : (c : Dev Cert.ProjectIdeal.nD) → Buf (Elt Ideal) ((c.tc : Thread Cert.ProjectIdeal.nD Cert.ProjectIdeal.τ).loc Cert.ProjectIdeal.main_v22)) (v6 : (c : Dev Cert.ProjectIdeal.nD) → Buf (Elt Ideal) ((c.tc : Thread Cert.ProjectIdeal.nD Cert.ProjectIdeal.τ).loc Cert.ProjectIdeal.main_v23)) (v7 : (c : Dev Cert.ProjectIdeal.nD) → Buf (Elt Ideal) ((c.tc : Thread Cert.ProjectIdeal.nD Cert.ProjectIdeal.τ).loc Cert.ProjectIdeal.main_v24)) (v8 : (c : Dev Cert.ProjectIdeal.nD) → Buf (Elt Ideal) ((c.tc : Thread Cert.ProjectIdeal.nD Cert.ProjectIdeal.τ).loc Cert.ProjectIdeal.main_v16_1)) (v9 : (c : Dev Cert.ProjectIdeal.nD) → Buf (Elt Ideal) ((c.tc : Thread Cert.ProjectIdeal.nD Cert.ProjectIdeal.τ).loc Cert.ProjectIdeal.main_v16_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v17) = v0 c
          ∧ r.2.mem ((c.tc : Thread Cert.ProjectIdeal.nD Cert.ProjectIdeal.τ).loc Cert.ProjectIdeal.main_v18) = v1 c
          ∧ r.2.mem ((c.tc : Thread Cert.ProjectIdeal.nD Cert.ProjectIdeal.τ).loc Cert.ProjectIdeal.main_v19) = v2 c
          ∧ r.2.mem ((c.tc : Thread Cert.ProjectIdeal.nD Cert.ProjectIdeal.τ).loc Cert.ProjectIdeal.main_v20) = v3 c
          ∧ r.2.mem ((c.tc : Thread Cert.ProjectIdeal.nD Cert.ProjectIdeal.τ).loc Cert.ProjectIdeal.main_v21) = v4 c
          ∧ r.2.mem ((c.tc : Thread Cert.ProjectIdeal.nD Cert.ProjectIdeal.τ).loc Cert.ProjectIdeal.main_v22) = v5 c
          ∧ r.2.mem ((c.tc : Thread Cert.ProjectIdeal.nD Cert.ProjectIdeal.τ).loc Cert.ProjectIdeal.main_v23) = v6 c
          ∧ r.2.mem ((c.tc : Thread Cert.ProjectIdeal.nD Cert.ProjectIdeal.τ).loc Cert.ProjectIdeal.main_v24) = v7 c
          ∧ r.2.mem ((c.tc : Thread Cert.ProjectIdeal.nD Cert.ProjectIdeal.τ).loc Cert.ProjectIdeal.main_v16_1) = v8 c
          ∧ r.2.mem ((c.tc : Thread Cert.ProjectIdeal.nD Cert.ProjectIdeal.τ).loc Cert.ProjectIdeal.main_v16_2) = v9 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v1) = v0 c
          ∧ r.2.mem ((c.tc : Thread Cert.ProjectRefIdeal.nD Cert.ProjectRefIdeal.τ).loc Cert.ProjectRefIdeal.main_v2) = v1 c
          ∧ r.2.mem ((c.tc : Thread Cert.ProjectRefIdeal.nD Cert.ProjectRefIdeal.τ).loc Cert.ProjectRefIdeal.main_v3) = v2 c
          ∧ r.2.mem ((c.tc : Thread Cert.ProjectRefIdeal.nD Cert.ProjectRefIdeal.τ).loc Cert.ProjectRefIdeal.main_v7) = v3 c
          ∧ r.2.mem ((c.tc : Thread Cert.ProjectRefIdeal.nD Cert.ProjectRefIdeal.τ).loc Cert.ProjectRefIdeal.main_v8) = v4 c
          ∧ r.2.mem ((c.tc : Thread Cert.ProjectRefIdeal.nD Cert.ProjectRefIdeal.τ).loc Cert.ProjectRefIdeal.main_v9) = v5 c
          ∧ r.2.mem ((c.tc : Thread Cert.ProjectRefIdeal.nD Cert.ProjectRefIdeal.τ).loc Cert.ProjectRefIdeal.main_v10) = v6 c
          ∧ r.2.mem ((c.tc : Thread Cert.ProjectRefIdeal.nD Cert.ProjectRefIdeal.τ).loc Cert.ProjectRefIdeal.main_v11) = v7 c
          ∧ r.2.mem ((c.tc : Thread Cert.ProjectRefIdeal.nD Cert.ProjectRefIdeal.τ).loc Cert.ProjectRefIdeal.main_v2) = v8 c
          ∧ r.2.mem ((c.tc : Thread Cert.ProjectRefIdeal.nD Cert.ProjectRefIdeal.τ).loc Cert.ProjectRefIdeal.main_v3) = v9 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v6)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v6) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v31) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hProject : Cert.Project.Facts) (hProjectIdeal : Cert.ProjectIdeal.Facts) (hProjectRefIdeal : Cert.ProjectRefIdeal.Facts) (hDense : Cert.Dense.Facts) (hDenseIdeal : Cert.DenseIdeal.Facts) (hDenseRefIdeal : Cert.DenseRefIdeal.Facts) (hPre_tables_ok : Cert.Pre_tables_ok.Facts) (hOn_used_rows : Cert.On_used_rows.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_tables_ok := hPre_tables_ok)
    ∧ quiescent_ExpertsIdeal (hExpertsIdeal := hExpertsIdeal) (hPre_tables_ok := hPre_tables_ok)
    ∧ quiescent_ExpertsRefIdeal (hExpertsRefIdeal := hExpertsRefIdeal)
    ∧ quiescent_ExpertsRefIdeal_pre_tables_ok (hExpertsRefIdeal := hExpertsRefIdeal) (hPre_tables_ok := hPre_tables_ok)
    ∧ quiescent_Project (hProject := hProject)
    ∧ quiescent_ProjectIdeal (hProjectIdeal := hProjectIdeal)
    ∧ quiescent_ProjectRefIdeal (hProjectRefIdeal := hProjectRefIdeal)
    ∧ quiescent_Dense (hDense := hDense)
    ∧ quiescent_DenseIdeal (hDenseIdeal := hDenseIdeal)
    ∧ quiescent_DenseRefIdeal (hDenseRefIdeal := hDenseRefIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsRefIdeal_on_used_rows (hExpertsIdeal := hExpertsIdeal) (hExpertsRefIdeal := hExpertsRefIdeal) (hPre_tables_ok := hPre_tables_ok) (hOn_used_rows := hOn_used_rows)
    ∧ preserves_Project_ProjectIdeal
    ∧ algebraic_ProjectIdeal_ProjectRefIdeal (hProjectIdeal := hProjectIdeal) (hProjectRefIdeal := hProjectRefIdeal)
    ∧ preserves_Dense_DenseIdeal
    ∧ algebraic_DenseIdeal_DenseRefIdeal (hDenseIdeal := hDenseIdeal) (hDenseRefIdeal := hDenseRefIdeal)
-- ==== On_used_rows.lean ====
abbrev S70144x1024 : Shape := ⟨2, ![70144, 1024]⟩
abbrev S137 : Shape := ⟨1, ![137]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  shapeCasts_S1_S_ : S1.ShapeCasts S_
  bcast_S_S70144x1024 : S_.BroadcastsInDim S70144x1024 (![] : Fin 0 → Fin S70144x1024.rank)

variable [Facts]

def fn {F : FTy → Type} [FloatOps F] (main_arg0 : FVec F S70144x1024 .f32) (main_arg1 : IVec S137 32) (main_arg2 : IVec S1 32) (main_arg3 : FVec F S8x1024x3584 .f32) (main_arg4 : FVec F S8x1024x3584 .f32) (main_arg5 : FVec F S8x3584x1024 .f32) : IVec S70144x1024 1 :=
  let main_v0 : IVec S70144x1024 32 := iotaInDim S70144x1024 32 0
  let main_v1 : IVec S_ 32 := shapeCast S_ main_arg2 shapeCasts_S1_S_
  let main_c : IVec S_ 32 := constantI S_ 32 512#32
  let main_v2 : IVec S_ 32 := muli main_v1 main_c
  let main_v3 : IVec S70144x1024 32 := broadcastInDim S70144x1024 ![] bcast_S_S70144x1024 main_v2
  let main_v4 : IVec S70144x1024 1 := cmpi .slt main_v0 main_v3
  main_v4
-- ==== Pre_tables_ok.lean ====
abbrev S70144x1024 : Shape := ⟨2, ![70144, 1024]⟩
abbrev S137 : Shape := ⟨1, ![137]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S137 : S_.BroadcastsInDim S137 (![] : Fin 0 → Fin S137.rank)
  reducesTo_S137_S_d0 : S137.ReducesTo [0] S_
  h_S_ : 0 < S_.numel
  shapeCasts_S1_S_ : S1.ShapeCasts S_

variable [Facts]

def fn {F : FTy → Type} [FloatOps F] (main_arg0 : FVec F S70144x1024 .f32) (main_arg1 : IVec S137 32) (main_arg2 : IVec S1 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S137 32 := broadcastInDim S137 ![] bcast_S_S137 main_c
  let main_v1 : IVec S137 1 := cmpi .sge main_arg1 main_v0
  let main_c_0 : IVec S_ 32 := constantI S_ 32 8#32
  let main_v2 : IVec S137 32 := broadcastInDim S137 ![] bcast_S_S137 main_c_0
  let main_v3 : IVec S137 1 := cmpi .slt main_arg1 main_v2
  let main_v4 : IVec S137 1 := andi main_v1 main_v3
  let main_c_1 : IVec S_ 1 := constantI S_ 1 1#1
  let main_v5 : IVec S_ 1 := (fun x v => Host.reduce IntOp.andi x v reducesTo_S137_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg2 shapeCasts_S1_S_
  let main_c_3 : IVec S_ 32 := constantI S_ 32 137#32
  let main_v10 : IVec S_ 1 := cmpi .sle main_v9 main_c_3
  let main_v11 : IVec S_ 1 := andi main_v8 main_v10
  main_v11
-- ==== Kernel.lean ====
abbrev S32768x512 : Shape := ⟨2, ![32768, 512]⟩
abbrev S512x128x512 : Shape := ⟨3, ![512, 128, 512]⟩
abbrev S512x4x64x64 : Shape := ⟨4, ![512, 4, 64, 64]⟩
abbrev S512x4x128x64 : Shape := ⟨4, ![512, 4, 128, 64]⟩
abbrev S512x8x128 : Shape := ⟨3, ![512, 8, 128]⟩
abbrev S33024x5120 : Shape := ⟨2, ![33024, 5120]⟩
abbrev S16x4x128x128 : Shape := ⟨4, ![16, 4, 128, 128]⟩
abbrev S128 : Shape := ⟨1, ![128]⟩
abbrev S1x128 : Shape := ⟨2, ![1, 128]⟩
abbrev S16x2048x512 : Shape := ⟨3, ![16, 2048, 512]⟩
abbrev S16x4096x512 : Shape := ⟨3, ![16, 4096, 512]⟩
abbrev S16x32x4x64x64 : Shape := ⟨5, ![16, 32, 4, 64, 64]⟩
abbrev S16x32x4x128x64 : Shape := ⟨5, ![16, 32, 4, 128, 64]⟩
abbrev S16x32x8x128 : Shape := ⟨4, ![16, 32, 8, 128]⟩
abbrev S4x64x512 : Shape := ⟨3, ![4, 64, 512]⟩
abbrev S4x128x512 : Shape := ⟨3, ![4, 128, 512]⟩
abbrev S4x1x4x64x64 : Shape := ⟨5, ![4, 1, 4, 64, 64]⟩
abbrev S4x1x4x128x64 : Shape := ⟨5, ![4, 1, 4, 128, 64]⟩
abbrev S4x1x8x128 : Shape := ⟨4, ![4, 1, 8, 128]⟩
abbrev S64x512 : Shape := ⟨2, ![64, 512]⟩
abbrev S4x4x128x128 : Shape := ⟨4, ![4, 4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S1x64x128 : Shape := ⟨3, ![1, 64, 128]⟩
abbrev S64x128 : Shape := ⟨2, ![64, 128]⟩
abbrev S1x1x1x128x64 : Shape := ⟨5, ![1, 1, 1, 128, 64]⟩
abbrev S128x64 : Shape := ⟨2, ![128, 64]⟩
abbrev S1x1x1x1 : Shape := ⟨4, ![1, 1, 1, 1]⟩
abbrev S1x1 : Shape := ⟨2, ![1, 1]⟩
abbrev S1x1x1x64x64 : Shape := ⟨5, ![1, 1, 1, 64, 64]⟩
abbrev S64x64 : Shape := ⟨2, ![64, 64]⟩
abbrev S64 : Shape := ⟨1, ![64]⟩
abbrev S64x1 : Shape := ⟨2, ![64, 1]⟩

abbrev nBuf : Space → Nat
  | .hbm => 16
  | .vmem => 26
  | .smem => 0
  | _ => 0

abbrev bufTy : (tb : Table) → Fin (tcTables nBuf tb) → BufTy
  | .hbm, ⟨0, _⟩ => ⟨S32768x512, .f32⟩
  | .hbm, ⟨1, _⟩ => ⟨S512x128x512, .bf16⟩
  | .hbm, ⟨2, _⟩ => ⟨S512x4x64x64, .bf16⟩
  | .hbm, ⟨3, _⟩ => ⟨S512x4x128x64, .bf16⟩
  | .hbm, ⟨4, _⟩ => ⟨S512x8x128, .f32⟩
  | .hbm, ⟨5, _⟩ => ⟨S33024x5120, .f32⟩
  | .hbm, ⟨6, _⟩ => ⟨S16x4x128x128, .f32⟩
  | .hbm, ⟨7, _⟩ => ⟨S128, .f32⟩
  | .hbm, ⟨8, _⟩ => ⟨S1x128, .f32⟩
  | .hbm, ⟨9, _⟩ => ⟨S16x2048x512, .f32⟩
  | .hbm, ⟨10, _⟩ => ⟨S16x4096x512, .bf16⟩
  | .hbm, ⟨11, _⟩ => ⟨S16x32x4x64x64, .bf16⟩
  | .hbm, ⟨12, _⟩ => ⟨S16x32x4x128x64, .bf16⟩
  | .hbm, ⟨13, _⟩ => ⟨S16x32x8x128, .f32⟩
  | .hbm, ⟨14, _⟩ => ⟨S16x2048x512, .bf16⟩
  | .hbm, ⟨15, _⟩ => ⟨S16x4x128x128, .f32⟩
  | .local _ .vmem, ⟨0, _⟩ => ⟨S4x64x512, .f32⟩
  | .local _ .vmem, ⟨1, _⟩ => ⟨S4x64x512, .f32⟩
  | .local _ .vmem, ⟨2, _⟩ => ⟨S4x128x512, .bf16⟩
  | .local _ .vmem, ⟨3, _⟩ => ⟨S4x128x512, .bf16⟩
  | .local _ .vmem, ⟨4, _⟩ => ⟨S4x1x4x64x64, .bf16⟩
  | .local _ .vmem, ⟨5, _⟩ => ⟨S4x1x4x64x64, .bf16⟩
  | .local _ .vmem, ⟨6, _⟩ => ⟨S4x1x4x128x64, .bf16⟩
  | .local _ .vmem, ⟨7, _⟩ => ⟨S4x1x4x128x64, .bf16⟩
  | .local _ .vmem, ⟨8, _⟩ => ⟨S4x1x8x128, .f32⟩
  | .local _ .vmem, ⟨9, _⟩ => ⟨S4x1x8x128, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .vmem, ⟨18, _⟩ => ⟨S4x4x128x128, .f32⟩
  | .local _ .vmem, ⟨19, _⟩ => ⟨S4x4x128x128, .f32⟩
  | .local _ .vmem, ⟨20, _⟩ => ⟨S1x128, .f32⟩
  | .local _ .vmem, ⟨21, _⟩ => ⟨S4x64x512, .bf16⟩
  | .local _ .vmem, ⟨22, _⟩ => ⟨S4x64x512, .bf16⟩
  | .local _ .vmem, ⟨23, _⟩ => ⟨S4x4x128x128, .f32⟩
  | .local _ .vmem, ⟨24, _⟩ => ⟨S4x4x128x128, .f32⟩
  | .local _ .vmem, ⟨25, _⟩ => ⟨S4x4x128x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v915 : BitVec 1 := Scalar.cmpi .eq arg1 c31_i32
  let v916 : BitVec 32 := Scalar.extui v915
  let c0_i32_757 : BitVec 32 := 0#32
  let v917 : BitVec 1 := Scalar.cmpi .ne v916 c0_i32_757
  v917

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c32_i32 : BitVec 32 := 32#32
  let v2 : BitVec 32 := Scalar.muli v1 c32_i32
  let c0_i32_0 : BitVec 32 := 0#32
  let v3 : BitVec 32 := Scalar.addi c0_i32_0 v2
  let v4 : BitVec 32 := Scalar.addi v3 arg1
  let c7_i32 : BitVec 32 := 7#32
  let c0_i32_1 : BitVec 32 := 0#32
  ![v4.toNat, c7_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c32_i32 : BitVec 32 := 32#32
  let v2 : BitVec 32 := Scalar.muli v1 c32_i32
  let c0_i32 : BitVec 32 := 0#32
  let v3 : BitVec 32 := Scalar.addi c0_i32 v2
  let v4 : BitVec 32 := Scalar.addi v3 arg1
  let c7_i32 : BitVec 32 := 7#32
  let c0_i32_0 : BitVec 32 := 0#32
  ![v4.toNat, c7_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c32_i32 : BitVec 32 := 32#32
  let v2 : BitVec 32 := Scalar.muli v1 c32_i32
  let c0_i32 : BitVec 32 := 0#32
  let v3 : BitVec 32 := Scalar.addi c0_i32 v2
  let v4 : BitVec 32 := Scalar.addi v3 arg1
  let c7_i32 : BitVec 32 := 7#32
  let c0_i32_0 : BitVec 32 := 0#32
  ![v4.toNat, c7_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c32_i32 : BitVec 32 := 32#32
  let v2 : BitVec 32 := Scalar.muli v1 c32_i32
  let c0_i32 : BitVec 32 := 0#32
  let v3 : BitVec 32 := Scalar.addi c0_i32 v2
  let v4 : BitVec 32 := Scalar.addi v3 arg1
  let c7_i32 : BitVec 32 := 7#32
  let c0_i32_0 : BitVec 32 := 0#32
  ![v4.toNat, c7_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x4x64x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S4x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S32768x512 : Shape := ⟨2, ![32768, 512]⟩
abbrev S512x128x512 : Shape := ⟨3, ![512, 128, 512]⟩
abbrev S512x4x64x64 : Shape := ⟨4, ![512, 4, 64, 64]⟩
abbrev S512x4x128x64 : Shape := ⟨4, ![512, 4, 128, 64]⟩
abbrev S512x8x128 : Shape := ⟨3, ![512, 8, 128]⟩
abbrev S33024x5120 : Shape := ⟨2, ![33024, 5120]⟩
abbrev S16x4x128x128 : Shape := ⟨4, ![16, 4, 128, 128]⟩
abbrev S128 : Shape := ⟨1, ![128]⟩
abbrev S16x32x64x4x128 : Shape := ⟨5, ![16, 32, 64, 4, 128]⟩
abbrev S32x16x4x64x128 : Shape := ⟨5, ![32, 16, 4, 64, 128]⟩
abbrev S16x32x2x64x4x128 : Shape := ⟨6, ![16, 32, 2, 64, 4, 128]⟩
abbrev S16x32x1x64x4x128 : Shape := ⟨6, ![16, 32, 1, 64, 4, 128]⟩
abbrev S16x32x4x64x64 : Shape := ⟨5, ![16, 32, 4, 64, 64]⟩
abbrev S32x16x4x64x64 : Shape := ⟨5, ![32, 16, 4, 64, 64]⟩
abbrev S16x32x4x128x64 : Shape := ⟨5, ![16, 32, 4, 128, 64]⟩
abbrev S16x32x8x128 : Shape := ⟨4, ![16, 32, 8, 128]⟩
abbrev S16x32x1x4 : Shape := ⟨4, ![16, 32, 1, 4]⟩
abbrev S16x32x4 : Shape := ⟨3, ![16, 32, 4]⟩
abbrev S32x16x4 : Shape := ⟨3, ![32, 16, 4]⟩
abbrev S_ : Shape := ⟨0, ![]⟩
abbrev S1x16x4x64x128 : Shape := ⟨5, ![1, 16, 4, 64, 128]⟩
abbrev S16x4x64x128 : Shape := ⟨4, ![16, 4, 64, 128]⟩
abbrev S1x16x4x64x64 : Shape := ⟨5, ![1, 16, 4, 64, 64]⟩
abbrev S16x4x64x64 : Shape := ⟨4, ![16, 4, 64, 64]⟩
abbrev S1x16x4 : Shape := ⟨3, ![1, 16, 4]⟩
abbrev S16x4 : Shape := ⟨2, ![16, 4]⟩
abbrev S16x4x1x1 : Shape := ⟨4, ![16, 4, 1, 1]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x2048x512 : Shape := ⟨3, ![16, 2048, 512]⟩

abbrev nBuf : Space → Nat
  | .hbm => 126
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x128x512, .bf16⟩
  | .hbm, ⟨2, _⟩ => ⟨S512x4x64x64, .bf16⟩
  | .hbm, ⟨3, _⟩ => ⟨S512x4x128x64, .bf16⟩
  | .hbm, ⟨4, _⟩ => ⟨S512x8x128, .f32⟩
  | .hbm, ⟨5, _⟩ => ⟨S33024x5120, .f32⟩
  | .hbm, ⟨6, _⟩ => ⟨S16x4x128x128, .f32⟩
  | .hbm, ⟨7, _⟩ => ⟨S128, .f32⟩
  | .hbm, ⟨8, _⟩ => ⟨S16x32x64x4x128, .f32⟩
  | .hbm, ⟨9, _⟩ => ⟨S32x16x4x64x128, .f32⟩
  | .hbm, ⟨10, _⟩ => ⟨S512x128x512, .f32⟩
  | .hbm, ⟨11, _⟩ => ⟨S16x32x2x64x4x128, .f32⟩
  | .hbm, ⟨12, _⟩ => ⟨S16x32x1x64x4x128, .f32⟩
  | .hbm, ⟨13, _⟩ => ⟨S16x32x64x4x128, .f32⟩
  | .hbm, ⟨14, _⟩ => ⟨S32x16x4x64x128, .f32⟩
  | .hbm, ⟨15, _⟩ => ⟨S16x32x1x64x4x128, .f32⟩
  | .hbm, ⟨16, _⟩ => ⟨S16x32x64x4x128, .f32⟩
  | .hbm, ⟨17, _⟩ => ⟨S32x16x4x64x128, .f32⟩
  | .hbm, ⟨18, _⟩ => ⟨S512x4x64x64, .f32⟩
  | .hbm, ⟨19, _⟩ => ⟨S16x32x4x64x64, .f32⟩
  | .hbm, ⟨20, _⟩ => ⟨S32x16x4x64x64, .f32⟩
  | .hbm, ⟨21, _⟩ => ⟨S512x4x128x64, .f32⟩
  | .hbm, ⟨22, _⟩ => ⟨S16x32x4x128x64, .f32⟩
  | .hbm, ⟨23, _⟩ => ⟨S32x16x4x64x128, .f32⟩
  | .hbm, ⟨24, _⟩ => ⟨S16x32x8x128, .f32⟩
  | .hbm, ⟨25, _⟩ => ⟨S16x32x1x4, .f32⟩
  | .hbm, ⟨26, _⟩ => ⟨S16x32x4, .f32⟩
  | .hbm, ⟨27, _⟩ => ⟨S32x16x4, .f32⟩
  | .hbm, ⟨28, _⟩ => ⟨S_, .f32⟩
  | .hbm, ⟨29, _⟩ => ⟨S32x16x4x64x128, .f32⟩
  | .hbm, ⟨30, _⟩ => ⟨S_, .i32⟩
  | .hbm, ⟨31, _⟩ => ⟨S32x16x4x64x128, .f32⟩
  | .hbm, ⟨32, _⟩ => ⟨S32x16x4x64x128, .f32⟩
  | .hbm, ⟨33, _⟩ => ⟨S32x16x4x64x64, .f32⟩
  | .hbm, ⟨34, _⟩ => ⟨S32x16x4x64x128, .f32⟩
  | .hbm, ⟨35, _⟩ => ⟨S32x16x4x64x128, .f32⟩
  | .hbm, ⟨36, _⟩ => ⟨S32x16x4, .f32⟩
  | .hbm, ⟨37, _⟩ => ⟨S_, .i32⟩
  | .hbm, ⟨38, _⟩ => ⟨S16x4x128x128, .f32⟩
  | .hbm, ⟨39, _⟩ => ⟨S32x16x4x64x128, .f32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x16x4x64x128, .f32⟩
  | .hbm, ⟨47, _⟩ => ⟨S16x4x64x128, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x16x4x64x128, .f32⟩
  | .hbm, ⟨53, _⟩ => ⟨S16x4x64x128, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x16x4x64x64, .f32⟩
  | .hbm, ⟨59, _⟩ => ⟨S16x4x64x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x16x4x64x128, .f32⟩
  | .hbm, ⟨65, _⟩ => ⟨S16x4x64x128, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x16x4x64x128, .f32⟩
  | .hbm, ⟨71, _⟩ => ⟨S16x4x64x128, .f32⟩
  | .hbm, ⟨72, _⟩ => ⟨S_, .i32⟩
  | .hbm, ⟨73, _⟩ => ⟨S_, .i32⟩
  | .hbm, ⟨74, _⟩ => ⟨S1x16x4, .f32⟩
  | .hbm, ⟨75, _⟩ => ⟨S16x4, .f32⟩
  | .hbm, ⟨76, _⟩ => ⟨S16x4x64x128, .f32⟩
  | .hbm, ⟨77, _⟩ => ⟨S16x4x64x128, .f32⟩
  | .hbm, ⟨78, _⟩ => ⟨S16x4x64x128, .f32⟩
  | .hbm, ⟨79, _⟩ => ⟨S16x4x64x128, .f32⟩
  | .hbm, ⟨80, _⟩ => ⟨S16x4x64x128, .f32⟩
  | .hbm, ⟨81, _⟩ => ⟨S16x4x1x1, .f32⟩
  | .hbm, ⟨82, _⟩ => ⟨S16x4x128x128, .f32⟩
  | .hbm, ⟨83, _⟩ => ⟨S16x4x128x128, .f32⟩
  | .hbm, ⟨84, _⟩ => ⟨S16x4x128x128, .f32⟩
  | .hbm, ⟨85, _⟩ => ⟨S16x4x128x128, .f32⟩
  | .hbm, ⟨86, _⟩ => ⟨S1x16x4x64x128, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S32x16x4x64x128, .f32⟩
  | .hbm, ⟨92, _⟩ => ⟨S_, .i32⟩
  | .hbm, ⟨93, _⟩ => ⟨S_, .i32⟩
  | .hbm, ⟨94, _⟩ => ⟨S16x32x64x4x128, .f32⟩
  | .hbm, ⟨95, _⟩ => ⟨S16x2048x4x128, .f32⟩
  | .hbm, ⟨96, _⟩ => ⟨S32768x512, .f32⟩
  | .hbm, ⟨97, _⟩ => ⟨S16x2048x4x128, .f32⟩
  | .hbm, ⟨98, _⟩ => ⟨S_, .f32⟩
  | .hbm, ⟨99, _⟩ => ⟨S16x2048x4, .f32⟩
  | .hbm, ⟨100, _⟩ => ⟨S16x2048x4x1, .f32⟩
  | .hbm, ⟨101, _⟩ => ⟨S_, .f32⟩
  | .hbm, ⟨102, _⟩ => ⟨S16x2048x4x1, .f32⟩
  | .hbm, ⟨103, _⟩ => ⟨S16x2048x4x1, .f32⟩
  | .hbm, ⟨104, _⟩ => ⟨S_, .f32⟩
  | .hbm, ⟨105, _⟩ => ⟨S16x2048x4x1, .f32⟩
  | .hbm, ⟨106, _⟩ => ⟨S16x2048x4x1, .f32⟩
  | .hbm, ⟨107, _⟩ => ⟨S16x2048x4x1, .f32⟩
  | .hbm, ⟨108, _⟩ => ⟨S16x2048x4x128, .f32⟩
  | .hbm, ⟨109, _⟩ => ⟨S16x2048x4x128, .f32⟩
  | .hbm, ⟨110, _⟩ => ⟨S1x1x1x128, .f32⟩
  | .hbm, ⟨111, _⟩ => ⟨S16x2048x4x128, .f32⟩
  | .hbm, ⟨112, _⟩ => ⟨S16x2048x4x128, .f32⟩
  | .hbm, ⟨113, _⟩ => ⟨S16x2048x4x128, .f32⟩
  | .hbm, ⟨114, _⟩ => ⟨S16x2048x4x128, .f32⟩
  | .hbm, ⟨115, _⟩ => ⟨S16x2048x4x128, .f32⟩
  | .hbm, ⟨116, _⟩ => ⟨S_, .f32⟩
  | .hbm, ⟨117, _⟩ => ⟨S16x2048x4x128, .f32⟩
  | .hbm, ⟨118, _⟩ => ⟨S16x2048x4x128, .f32⟩
  | .hbm, ⟨119, _⟩ => ⟨S_, .f32⟩
  | .hbm, ⟨120, _⟩ => ⟨S16x2048x4x128, .f32⟩
  | .hbm, ⟨121, _⟩ => ⟨S16x2048x4x128, .f32⟩
  | .hbm, ⟨122, _⟩ => ⟨S16x2048x4x128, .f32⟩
  | .hbm, ⟨123, _⟩ => ⟨S16x2048x4x128, .f32⟩
  | .hbm, ⟨124, _⟩ => ⟨S16x2048x512, .f32⟩
  | .hbm, ⟨125, _⟩ => ⟨S16x2048x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_c : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v21_5 : Ref sig .tc := ⟨.hbm, 36, rfl⟩
abbrev main_v21_6 : Ref sig .tc := ⟨.hbm, 37, rfl⟩
abbrev main_v21_7 : Ref sig .tc := ⟨.hbm, 38, rfl⟩
abbrev main_v21_8 : Ref sig .tc := ⟨.hbm, 39, rfl⟩
abbrev main_while0c_c_11 : Ref sig .tc := ⟨.hbm, 40, rfl⟩
abbrev main_while0c_v43 : Ref sig .tc := ⟨.hbm, 41, rfl⟩
abbrev main_while0b_call0_c : Ref sig .tc := ⟨.hbm, 42, rfl⟩
abbrev main_while0b_call0_c_0 : Ref sig .tc := ⟨.hbm, 43, rfl⟩
abbrev main_while0b_call0_c_1 : Ref sig .tc := ⟨.hbm, 44, rfl⟩
abbrev main_while0b_call0_c_2 : Ref sig .tc := ⟨.hbm, 45, rfl⟩
abbrev main_while0b_call0_v0 : Ref sig .tc := ⟨.hbm, 46, rfl⟩
abbrev main_while0b_v43 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_c_1 : Ref sig .tc := ⟨.hbm, 50, rfl⟩
abbrev main_while0b_call1_c_2 : Ref sig .tc := ⟨.hbm, 51, rfl⟩
abbrev main_while0b_call1_v0 : Ref sig .tc := ⟨.hbm, 52, rfl⟩
abbrev main_while0b_v44 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_c_1 : Ref sig .tc := ⟨.hbm, 56, rfl⟩
abbrev main_while0b_call2_c_2 : Ref sig .tc := ⟨.hbm, 57, rfl⟩
abbrev main_while0b_call2_v0 : Ref sig .tc := ⟨.hbm, 58, rfl⟩
abbrev main_while0b_v45 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_c_2 : Ref sig .tc := ⟨.hbm, 63, rfl⟩
abbrev main_while0b_call3_v0 : Ref sig .tc := ⟨.hbm, 64, rfl⟩
abbrev main_while0b_v46 : Ref sig .tc := ⟨.hbm, 65, rfl⟩
abbrev main_while0b_call4_c : Ref sig .tc := ⟨.hbm, 66, rfl⟩
abbrev main_while0b_call4_c_0 : Ref sig .tc := ⟨.hbm, 67, rfl⟩
abbrev main_while0b_call4_c_1 : Ref sig .tc := ⟨.hbm, 68, rfl⟩
abbrev main_while0b_call4_c_2 : Ref sig .tc := ⟨.hbm, 69, rfl⟩
abbrev main_while0b_call4_v0 : Ref sig .tc := ⟨.hbm, 70, rfl⟩
abbrev main_while0b_v47 : Ref sig .tc := ⟨.hbm, 71, rfl⟩
abbrev main_while0b_call5_c : Ref sig .tc := ⟨.hbm, 72, rfl⟩
abbrev main_while0b_call5_c_0 : Ref sig .tc := ⟨.hbm, 73, rfl⟩
abbrev main_while0b_call5_v0 : Ref sig .tc := ⟨.hbm, 74, rfl⟩
abbrev main_while0b_v48 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_v55 : Ref sig .tc := ⟨.hbm, 82, rfl⟩
abbrev main_while0b_v56 : Ref sig .tc := ⟨.hbm, 83, rfl⟩
abbrev main_while0b_v57 : Ref sig .tc := ⟨.hbm, 84, rfl⟩
abbrev main_while0b_v58 : Ref sig .tc := ⟨.hbm, 85, rfl⟩
abbrev main_while0b_call6_v0 : Ref sig .tc := ⟨.hbm, 86, rfl⟩
abbrev main_while0b_call6_c : Ref sig .tc := ⟨.hbm, 87, rfl⟩
abbrev main_while0b_call6_c_0 : Ref sig .tc := ⟨.hbm, 88, rfl⟩
abbrev main_while0b_call6_c_1 : Ref sig .tc := ⟨.hbm, 89, rfl⟩
abbrev main_while0b_call6_c_2 : Ref sig .tc := ⟨.hbm, 90, rfl⟩
abbrev main_while0b_v59 : Ref sig .tc := ⟨.hbm, 91, rfl⟩
abbrev main_while0b_c_11 : Ref sig .tc := ⟨.hbm, 92, rfl⟩
abbrev main_while0b_v60 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_cst_0 : Ref sig .tc := ⟨.hbm, 98, rfl⟩
abbrev main_v26 : Ref sig .tc := ⟨.hbm, 99, rfl⟩
abbrev main_v27 : Ref sig .tc := ⟨.hbm, 100, rfl⟩
abbrev main_cst_1 : Ref sig .tc := ⟨.hbm, 101, rfl⟩
abbrev main_v28 : Ref sig .tc := ⟨.hbm, 102, rfl⟩
abbrev main_v29 : Ref sig .tc := ⟨.hbm, 103, rfl⟩
abbrev main_cst_2 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_call7_v0 : Ref sig .tc := ⟨.hbm, 114, rfl⟩
abbrev main_call7_v1 : Ref sig .tc := ⟨.hbm, 115, rfl⟩
abbrev main_call7_cst : Ref sig .tc := ⟨.hbm, 116, rfl⟩
abbrev main_call7_v2 : Ref sig .tc := ⟨.hbm, 117, rfl⟩
abbrev main_call7_v3 : Ref sig .tc := ⟨.hbm, 118, rfl⟩
abbrev main_call7_cst_0 : Ref sig .tc := ⟨.hbm, 119, rfl⟩
abbrev main_call7_v4 : Ref sig .tc := ⟨.hbm, 120, rfl⟩
abbrev main_call7_v5 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩

abbrev nD : Nat := 1
abbrev τ : Topo := Topo.v7x

variable {F : FTy → Type} [FloatOps F]

abbrev main_while0_count : Scf.Loop 32 := ⟨0#32, 32#32, 1#32⟩
-- ==== Experts.lean ====
abbrev S70144x1024 : Shape := ⟨2, ![70144, 1024]⟩
abbrev S137 : Shape := ⟨1, ![137]⟩
abbrev S1 : Shape := ⟨1, ![1]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 9
  | .vmem => 11
  | .smem => 2
  | _ => 0

abbrev bufTy : (tb : Table) → Fin (tcTables nBuf tb) → BufTy
  | .hbm, ⟨0, _⟩ => ⟨S70144x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S70144x1024, .bf16⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S70144x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S137, .i32⟩
  | .local _ .smem, ⟨1, _⟩ => ⟨S1, .i32⟩
  | _, _ => ⟨S70144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![137, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond4 (i : grid0.Coords) : BitVec 1 :=
  let arg1 : BitVec 32 := BitVec.ofNat 32 (i 1).val
  let c1_i32 : BitVec 32 := 1#32
  let v31 : BitVec 1 := Scalar.cmpi .eq arg1 c1_i32
  let v32 : BitVec 32 := Scalar.extui v31
  let c0_i32_20 : BitVec 32 := 0#32
  let v33 : BitVec 1 := Scalar.cmpi .ne v32 c0_i32_20
  v33

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S137.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S137.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S137.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S70144x1024 : Shape := ⟨2, ![70144, 1024]⟩
abbrev S137 : Shape := ⟨1, ![137]⟩
abbrev S1 : Shape := ⟨1, ![1]⟩
abbrev S8x1024x3584 : Shape := ⟨3, ![8, 1024, 3584]⟩
abbrev S8x3584x1024 : Shape := ⟨3, ![8, 3584, 1024]⟩
abbrev S137x1 : Shape := ⟨2, ![137, 1]⟩
abbrev S137x512 : Shape := ⟨2, ![137, 512]⟩
abbrev S70144 : Shape := ⟨1, ![70144]⟩
abbrev S70144x1 : Shape := ⟨2, ![70144, 1]⟩
abbrev S1x8 : Shape := ⟨2, ![1, 8]⟩
abbrev S70144x8 : Shape := ⟨2, ![70144, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S70144x3584 : Shape := ⟨2, ![70144, 3584]⟩
abbrev S_ : Shape := ⟨0, ![]⟩

abbrev nBuf : Space → Nat
  | .hbm => 198
  | .vmem => 0
  | .smem => 0
  | _ => 0

abbrev hbmTy0_0 (i : Nat) : BufTy := match i % 128 with
  | 0 => ⟨S70144x1024, .f32⟩
  | 1 => ⟨S137, .i32⟩
  | 2 => ⟨S1, .i32⟩
  | 3 => ⟨S8x1024x3584, .f32⟩
  | 4 => ⟨S8x1024x3584, .f32⟩
  | 5 => ⟨S8x3584x1024, .f32⟩
  | 6 => ⟨S137x1, .i32⟩
  | 7 => ⟨S137x512, .i32⟩
  | 8 => ⟨S70144, .i32⟩
  | 9 => ⟨S70144x1, .i32⟩
  | 10 => ⟨S1x8, .i32⟩
  | 11 => ⟨S70144x8, .i32⟩
  | 12 => ⟨S70144x8, .i32⟩
  | 13 => ⟨S70144x8, .i1⟩
  | 14 => ⟨S70144x8, .f32⟩
  | 15 => ⟨S70144x1, .f32⟩
  | 16 => ⟨S1x1024x3584, .f32⟩
  | 17 => ⟨S1024x3584, .f32⟩
  | 18 => ⟨S1x1024x3584, .f32⟩
  | 19 => ⟨S1024x3584, .f32⟩
  | 20 => ⟨S1x3584x1024, .f32⟩
  | 21 => ⟨S3584x1024, .f32⟩
  | 22 => ⟨S70144x3584, .f32⟩
  | 23 => ⟨S70144x3584, .f32⟩
  | 24 => ⟨S70144x3584, .f32⟩
  | 25 => ⟨S_, .f32⟩
  | 26 => ⟨S70144x3584, .f32⟩
  | 27 => ⟨S70144x3584, .f32⟩
  | 28 => ⟨S_, .f32⟩
  | 29 => ⟨S70144x3584, .f32⟩
  | 30 => ⟨S70144x3584, .f32⟩
  | 31 => ⟨S70144x3584, .f32⟩
  | 32 => ⟨S70144x3584, .f32⟩
  | 33 => ⟨S70144x3584, .f32⟩
  | 34 => ⟨S70144x1024, .f32⟩
  | 35 => ⟨S70144x1024, .f32⟩
  | 36 => ⟨S70144x1024, .f32⟩
  | 37 => ⟨S70144x1, .f32⟩
  | 38 => ⟨S1x1024x3584, .f32⟩
  | 39 => ⟨S1024x3584, .f32⟩
  | 40 => ⟨S1x1024x3584, .f32⟩
  | 41 => ⟨S1024x3584, .f32⟩
  | 42 => ⟨S1x3584x1024, .f32⟩
  | 43 => ⟨S3584x1024, .f32⟩
  | 44 => ⟨S70144x3584, .f32⟩
  | 45 => ⟨S70144x3584, .f32⟩
  | 46 => ⟨S70144x3584, .f32⟩
  | 47 => ⟨S_, .f32⟩
  | 48 => ⟨S70144x3584, .f32⟩
  | 49 => ⟨S70144x3584, .f32⟩
  | 50 => ⟨S_, .f32⟩
  | 51 => ⟨S70144x3584, .f32⟩
  | 52 => ⟨S70144x3584, .f32⟩
  | 53 => ⟨S70144x3584, .f32⟩
  | 54 => ⟨S70144x3584, .f32⟩
  | 55 => ⟨S70144x3584, .f32⟩
  | 56 => ⟨S70144x1024, .f32⟩
  | 57 => ⟨S70144x1024, .f32⟩
  | 58 => ⟨S70144x1024, .f32⟩
  | 59 => ⟨S70144x1024, .f32⟩
  | 60 => ⟨S70144x1, .f32⟩
  | 61 => ⟨S1x1024x3584, .f32⟩
  | 62 => ⟨S1024x3584, .f32⟩
  | 63 => ⟨S1x1024x3584, .f32⟩
  | 64 => ⟨S1024x3584, .f32⟩
  | 65 => ⟨S1x3584x1024, .f32⟩
  | 66 => ⟨S3584x1024, .f32⟩
  | 67 => ⟨S70144x3584, .f32⟩
  | 68 => ⟨S70144x3584, .f32⟩
  | 69 => ⟨S70144x3584, .f32⟩
  | 70 => ⟨S_, .f32⟩
  | 71 => ⟨S70144x3584, .f32⟩
  | 72 => ⟨S70144x3584, .f32⟩
  | 73 => ⟨S_, .f32⟩
  | 74 => ⟨S70144x3584, .f32⟩
  | 75 => ⟨S70144x3584, .f32⟩
  | 76 => ⟨S70144x3584, .f32⟩
  | 77 => ⟨S70144x3584, .f32⟩
  | 78 => ⟨S70144x3584, .f32⟩
  | 79 => ⟨S70144x1024, .f32⟩
  | 80 => ⟨S70144x1024, .f32⟩
  | 81 => ⟨S70144x1024, .f32⟩
  | 82 => ⟨S70144x1024, .f32⟩
  | 83 => ⟨S70144x1, .f32⟩
  | 84 => ⟨S1x1024x3584, .f32⟩
  | 85 => ⟨S1024x3584, .f32⟩
  | 86 => ⟨S1x1024x3584, .f32⟩
  | 87 => ⟨S1024x3584, .f32⟩
  | 88 => ⟨S1x3584x1024, .f32⟩
  | 89 => ⟨S3584x1024, .f32⟩
  | 90 => ⟨S70144x3584, .f32⟩
  | 91 => ⟨S70144x3584, .f32⟩
  | 92 => ⟨S70144x3584, .f32⟩
  | 93 => ⟨S_, .f32⟩
  | 94 => ⟨S70144x3584, .f32⟩
  | 95 => ⟨S70144x3584, .f32⟩
  | 96 => ⟨S_, .f32⟩
  | 97 => ⟨S70144x3584, .f32⟩
  | 98 => ⟨S70144x3584, .f32⟩
  | 99 => ⟨S70144x3584, .f32⟩
  | 100 => ⟨S70144x3584, .f32⟩
  | 101 => ⟨S70144x3584, .f32⟩
  | 102 => ⟨S70144x1024, .f32⟩
  | 103 => ⟨S70144x1024, .f32⟩
  | 104 => ⟨S70144x1024, .f32⟩
  | 105 => ⟨S70144x1024, .f32⟩
  | 106 => ⟨S70144x1, .f32⟩
  | 107 => ⟨S1x1024x3584, .f32⟩
  | 108 => ⟨S1024x3584, .f32⟩
  | 109 => ⟨S1x1024x3584, .f32⟩
  | 110 => ⟨S1024x3584, .f32⟩
  | 111 => ⟨S1x3584x1024, .f32⟩
  | 112 => ⟨S3584x1024, .f32⟩
  | 113 => ⟨S70144x3584, .f32⟩
  | 114 => ⟨S70144x3584, .f32⟩
  | 115 => ⟨S70144x3584, .f32⟩
  | 116 => ⟨S_, .f32⟩
  | 117 => ⟨S70144x3584, .f32⟩
  | 118 => ⟨S70144x3584, .f32⟩
  | 119 => ⟨S_, .f32⟩
  | 120 => ⟨S70144x3584, .f32⟩
  | 121 => ⟨S70144x3584, .f32⟩
  | 122 => ⟨S70144x3584, .f32⟩
  | 123 => ⟨S70144x3584, .f32⟩
  | 124 => ⟨S70144x3584, .f32⟩
  | 125 => ⟨S70144x1024, .f32⟩
  | 126 => ⟨S70144x1024, .f32⟩
  | 127 => ⟨S70144x1024, .f32⟩
  | _ => ⟨S70144x1024, .f32⟩

abbrev hbmTy0_1 (i : Nat) : BufTy := match i % 128 with
  | 0 => ⟨S70144x1024, .f32⟩
  | 1 => ⟨S70144x1, .f32⟩
  | 2 => ⟨S1x1024x3584, .f32⟩
  | 3 => ⟨S1024x3584, .f32⟩
  | 4 => ⟨S1x1024x3584, .f32⟩
  | 5 => ⟨S1024x3584, .f32⟩
  | 6 => ⟨S1x3584x1024, .f32⟩
  | 7 => ⟨S3584x1024, .f32⟩
  | 8 => ⟨S70144x3584, .f32⟩
  | 9 => ⟨S70144x3584, .f32⟩
  | 10 => ⟨S70144x3584, .f32⟩
  | 11 => ⟨S_, .f32⟩
  | 12 => ⟨S70144x3584, .f32⟩
  | 13 => ⟨S70144x3584, .f32⟩
  | 14 => ⟨S_, .f32⟩
  | 15 => ⟨S70144x3584, .f32⟩
  | 16 => ⟨S70144x3584, .f32⟩
  | 17 => ⟨S70144x3584, .f32⟩
  | 18 => ⟨S70144x3584, .f32⟩
  | 19 => ⟨S70144x3584, .f32⟩
  | 20 => ⟨S70144x1024, .f32⟩
  | 21 => ⟨S70144x1024, .f32⟩
  | 22 => ⟨S70144x1024, .f32⟩
  | 23 => ⟨S70144x1024, .f32⟩
  | 24 => ⟨S70144x1, .f32⟩
  | 25 => ⟨S1x1024x3584, .f32⟩
  | 26 => ⟨S1024x3584, .f32⟩
  | 27 => ⟨S1x1024x3584, .f32⟩
  | 28 => ⟨S1024x3584, .f32⟩
  | 29 => ⟨S1x3584x1024, .f32⟩
  | 30 => ⟨S3584x1024, .f32⟩
  | 31 => ⟨S70144x3584, .f32⟩
  | 32 => ⟨S70144x3584, .f32⟩
  | 33 => ⟨S70144x3584, .f32⟩
  | 34 => ⟨S_, .f32⟩
  | 35 => ⟨S70144x3584, .f32⟩
  | 36 => ⟨S70144x3584, .f32⟩
  | 37 => ⟨S_, .f32⟩
  | 38 => ⟨S70144x3584, .f32⟩
  | 39 => ⟨S70144x3584, .f32⟩
  | 40 => ⟨S70144x3584, .f32⟩
  | 41 => ⟨S70144x3584, .f32⟩
  | 42 => ⟨S70144x3584, .f32⟩
  | 43 => ⟨S70144x1024, .f32⟩
  | 44 => ⟨S70144x1024, .f32⟩
  | 45 => ⟨S70144x1024, .f32⟩
  | 46 => ⟨S70144x1024, .f32⟩
  | 47 => ⟨S70144x1, .f32⟩
  | 48 => ⟨S1x1024x3584, .f32⟩
  | 49 => ⟨S1024x3584, .f32⟩
  | 50 => ⟨S1x1024x3584, .f32⟩
  | 51 => ⟨S1024x3584, .f32⟩
  | 52 => ⟨S1x3584x1024, .f32⟩
  | 53 => ⟨S3584x1024, .f32⟩
  | 54 => ⟨S70144x3584, .f32⟩
  | 55 => ⟨S70144x3584, .f32⟩
  | 56 => ⟨S70144x3584, .f32⟩
  | 57 => ⟨S_, .f32⟩
  | 58 => ⟨S70144x3584, .f32⟩
  | 59 => ⟨S70144x3584, .f32⟩
  | 60 => ⟨S_, .f32⟩
  | 61 => ⟨S70144x3584, .f32⟩
  | 62 => ⟨S70144x3584, .f32⟩
  | 63 => ⟨S70144x3584, .f32⟩
  | 64 => ⟨S70144x3584, .f32⟩
  | 65 => ⟨S70144x3584, .f32⟩
  | 66 => ⟨S70144x1024, .f32⟩
  | 67 => ⟨S70144x1024, .f32⟩
  | 68 => ⟨S70144x1024, .f32⟩
  | 69 => ⟨S70144x1024, .f32⟩
  | _ => ⟨S70144x1024, .f32⟩

abbrev hbmTy (i : Nat) : BufTy := match i / 128 with
  | 0 => hbmTy0_0 i
  | 1 => hbmTy0_1 i
  | _ => ⟨S70144x1024, .f32⟩

abbrev bufTy : (tb : Table) → Fin (tcTables nBuf tb) → BufTy
  | .hbm, ⟨i, _⟩ => hbmTy i
  | _, _ => ⟨S70144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_call3_v5 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call4_v0 : Ref sig .tc := ⟨.hbm, 91, rfl⟩
abbrev main_call4_v1 : Ref sig .tc := ⟨.hbm, 92, rfl⟩
abbrev main_call4_cst : Ref sig .tc := ⟨.hbm, 93, rfl⟩
abbrev main_call4_v2 : Ref sig .tc := ⟨.hbm, 94, rfl⟩
abbrev main_call4_v3 : Ref sig .tc := ⟨.hbm, 95, rfl⟩
abbrev main_call4_cst_0 : Ref sig .tc := ⟨.hbm, 96, rfl⟩
abbrev main_call4_v4 : Ref sig .tc := ⟨.hbm, 97, rfl⟩
abbrev main_call4_v5 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_call5_v0 : Ref sig .tc := ⟨.hbm, 114, rfl⟩
abbrev main_call5_v1 : Ref sig .tc := ⟨.hbm, 115, rfl⟩
abbrev main_call5_cst : Ref sig .tc := ⟨.hbm, 116, rfl⟩
abbrev main_call5_v2 : Ref sig .tc := ⟨.hbm, 117, rfl⟩
abbrev main_call5_v3 : Ref sig .tc := ⟨.hbm, 118, rfl⟩
abbrev main_call5_cst_0 : Ref sig .tc := ⟨.hbm, 119, rfl⟩
abbrev main_call5_v4 : Ref sig .tc := ⟨.hbm, 120, rfl⟩
abbrev main_call5_v5 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_call6_v0 : Ref sig .tc := ⟨.hbm, 137, rfl⟩
abbrev main_call6_v1 : Ref sig .tc := ⟨.hbm, 138, rfl⟩
abbrev main_call6_cst : Ref sig .tc := ⟨.hbm, 139, rfl⟩
abbrev main_call6_v2 : Ref sig .tc := ⟨.hbm, 140, rfl⟩
abbrev main_call6_v3 : Ref sig .tc := ⟨.hbm, 141, rfl⟩
abbrev main_call6_cst_0 : Ref sig .tc := ⟨.hbm, 142, rfl⟩
abbrev main_call6_v4 : Ref sig .tc := ⟨.hbm, 143, rfl⟩
abbrev main_call6_v5 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_call7_v0 : Ref sig .tc := ⟨.hbm, 160, rfl⟩
abbrev main_call7_v1 : Ref sig .tc := ⟨.hbm, 161, rfl⟩
abbrev main_call7_cst : Ref sig .tc := ⟨.hbm, 162, rfl⟩
abbrev main_call7_v2 : Ref sig .tc := ⟨.hbm, 163, rfl⟩
abbrev main_call7_v3 : Ref sig .tc := ⟨.hbm, 164, rfl⟩
abbrev main_call7_cst_0 : Ref sig .tc := ⟨.hbm, 165, rfl⟩
abbrev main_call7_v4 : Ref sig .tc := ⟨.hbm, 166, rfl⟩
abbrev main_call7_v5 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_call8_v0 : Ref sig .tc := ⟨.hbm, 183, rfl⟩
abbrev main_call8_v1 : Ref sig .tc := ⟨.hbm, 184, rfl⟩
abbrev main_call8_cst : Ref sig .tc := ⟨.hbm, 185, rfl⟩
abbrev main_call8_v2 : Ref sig .tc := ⟨.hbm, 186, rfl⟩
abbrev main_call8_v3 : Ref sig .tc := ⟨.hbm, 187, rfl⟩
abbrev main_call8_cst_0 : Ref sig .tc := ⟨.hbm, 188, rfl⟩
abbrev main_call8_v4 : Ref sig .tc := ⟨.hbm, 189, rfl⟩
abbrev main_call8_v5 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩

abbrev nD : Nat := 1
abbrev τ : Topo := Topo.v7x

variable {F : FTy → Type} [FloatOps F]
-- ==== Project.lean ====
abbrev S33024x1024 : Shape := ⟨2, ![33024, 1024]⟩
abbrev S1024x5456 : Shape := ⟨2, ![1024, 5456]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1536 : Shape := ⟨2, ![1024, 1536]⟩
abbrev S1024x4 : Shape := ⟨2, ![1024, 4]⟩
abbrev S1024x2048 : Shape := ⟨2, ![1024, 2048]⟩
abbrev S_ : Shape := ⟨0, ![]⟩
abbrev S1024x72 : Shape := ⟨2, ![1024, 72]⟩
abbrev S1024x48 : Shape := ⟨2, ![1024, 48]⟩
abbrev S1024x5120 : Shape := ⟨2, ![1024, 5120]⟩
abbrev S33024x5120 : Shape := ⟨2, ![33024, 5120]⟩
abbrev S33024x128 : Shape := ⟨2, ![33024, 128]⟩
abbrev S768x1024 : Shape := ⟨2, ![768, 1024]⟩
abbrev S1024x1280 : Shape := ⟨2, ![1024, 1280]⟩
abbrev S768x1280 : Shape := ⟨2, ![768, 1280]⟩
abbrev S768x128 : Shape := ⟨2, ![768, 128]⟩
abbrev S33024x512 : Shape := ⟨2, ![33024, 512]⟩
abbrev S33024x1536 : Shape := ⟨2, ![33024, 1536]⟩
abbrev S33024x4 : Shape := ⟨2, ![33024, 4]⟩
abbrev S33024x2048 : Shape := ⟨2, ![33024, 2048]⟩

abbrev nBuf : Space → Nat
  | .hbm => 32
  | .vmem => 10
  | .smem => 0
  | _ => 0

abbrev bufTy : (tb : Table) → Fin (tcTables nBuf tb) → BufTy
  | .hbm, ⟨0, _⟩ => ⟨S33024x1024, .f32⟩
  | .hbm, ⟨1, _⟩ => ⟨S1024x5456, .f32⟩
  | .hbm, ⟨2, _⟩ => ⟨S1024x512, .f32⟩
  | .hbm, ⟨3, _⟩ => ⟨S1024x128, .f32⟩
  | .hbm, ⟨4, _⟩ => ⟨S1024x128, .f32⟩
  | .hbm, ⟨5, _⟩ => ⟨S1024x512, .f32⟩
  | .hbm, ⟨6, _⟩ => ⟨S1024x64, .f32⟩
  | .hbm, ⟨7, _⟩ => ⟨S1024x8, .f32⟩
  | .hbm, ⟨8, _⟩ => ⟨S1024x1536, .f32⟩
  | .hbm, ⟨9, _⟩ => ⟨S1024x4, .f32⟩
  | .hbm, ⟨10, _⟩ => ⟨S1024x4, .f32⟩
  | .hbm, ⟨11, _⟩ => ⟨S1024x512, .f32⟩
  | .hbm, ⟨12, _⟩ => ⟨S1024x2048, .f32⟩
  | .hbm, ⟨13, _⟩ => ⟨S_, .f32⟩
  | .hbm, ⟨14, _⟩ => ⟨S1024x72, .f32⟩
  | .hbm, ⟨15, _⟩ => ⟨S_, .f32⟩
  | .hbm, ⟨16, _⟩ => ⟨S1024x48, .f32⟩
  | .hbm, ⟨17, _⟩ => ⟨S_, .f32⟩
  | .hbm, ⟨18, _⟩ => ⟨S1024x128, .f32⟩
  | .hbm, ⟨19, _⟩ => ⟨S1024x5120, .f32⟩
  | .hbm, ⟨20, _⟩ => ⟨S1024x5120, .bf16⟩
  | .hbm, ⟨21, _⟩ => ⟨S33024x5120, .f32⟩
  | .hbm, ⟨22, _⟩ => ⟨S33024x128, .f32⟩
  | .hbm, ⟨23, _⟩ => ⟨S33024x128, .f32⟩
  | .hbm, ⟨24, _⟩ => ⟨S33024x512, .f32⟩
  | .hbm, ⟨25, _⟩ => ⟨S33024x128, .f32⟩
  | .hbm, ⟨26, _⟩ => ⟨S33024x128, .f32⟩
  | .hbm, ⟨27, _⟩ => ⟨S33024x1536, .f32⟩
  | .hbm, ⟨28, _⟩ => ⟨S33024x4, .f32⟩
  | .hbm, ⟨29, _⟩ => ⟨S33024x4, .f32⟩
  | .hbm, ⟨30, _⟩ => ⟨S33024x512, .f32⟩
  | .hbm, ⟨31, _⟩ => ⟨S33024x2048, .f32⟩
  | .local _ .vmem, ⟨0, _⟩ => ⟨S768x1024, .f32⟩
  | .local _ .vmem, ⟨1, _⟩ => ⟨S768x1024, .f32⟩
  | .local _ .vmem, ⟨2, _⟩ => ⟨S1024x1280, .bf16⟩
  | .local _ .vmem, ⟨3, _⟩ => ⟨S1024x1280, .bf16⟩
  | .local _ .vmem, ⟨4, _⟩ => ⟨S768x1280, .f32⟩
  | .local _ .vmem, ⟨5, _⟩ => ⟨S768x1280, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![43, 4], ![false, false]⟩

def k0_cond1 (i : grid0.Coords) : BitVec 1 :=
  let arg1 : BitVec 32 := BitVec.ofNat 32 (i 1).val
  let c3_i32 : BitVec 32 := 3#32
  let v6 : BitVec 1 := Scalar.cmpi .eq arg1 c3_i32
  let v7 : BitVec 32 := Scalar.extui v6
  let c0_i32 : BitVec 32 := 0#32
  let v8 : BitVec 1 := Scalar.cmpi .ne v7 c0_i32
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ProjectRefIdeal.lean ====
abbrev S33024x1024 : Shape := ⟨2, ![33024, 1024]⟩
abbrev S1024x5456 : Shape := ⟨2, ![1024, 5456]⟩
abbrev S33024x5456 : Shape := ⟨2, ![33024, 5456]⟩
abbrev S33024x512 : Shape := ⟨2, ![33024, 512]⟩
abbrev S33024x128 : Shape := ⟨2, ![33024, 128]⟩
abbrev S33024x64 : Shape := ⟨2, ![33024, 64]⟩
abbrev S33024x8 : Shape := ⟨2, ![33024, 8]⟩
abbrev S33024x1536 : Shape := ⟨2, ![33024, 1536]⟩
abbrev S33024x4 : Shape := ⟨2, ![33024, 4]⟩
abbrev S33024x2048 : Shape := ⟨2, ![33024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S33024x1024, .f32⟩
  | .hbm, ⟨1, _⟩ => ⟨S1024x5456, .f32⟩
  | .hbm, ⟨2, _⟩ => ⟨S33024x5456, .f32⟩
  | .hbm, ⟨3, _⟩ => ⟨S33024x512, .f32⟩
  | .hbm, ⟨4, _⟩ => ⟨S33024x128, .f32⟩
  | .hbm, ⟨5, _⟩ => ⟨S33024x128, .f32⟩
  | .hbm, ⟨6, _⟩ => ⟨S33024x512, .f32⟩
  | .hbm, ⟨7, _⟩ => ⟨S33024x64, .f32⟩
  | .hbm, ⟨8, _⟩ => ⟨S33024x8, .f32⟩
  | .hbm, ⟨9, _⟩ => ⟨S33024x1536, .f32⟩
  | .hbm, ⟨10, _⟩ => ⟨S33024x4, .f32⟩
  | .hbm, ⟨11, _⟩ => ⟨S33024x4, .f32⟩
  | .hbm, ⟨12, _⟩ => ⟨S33024x512, .f32⟩
  | .hbm, ⟨13, _⟩ => ⟨S33024x2048, .f32⟩
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Dense.lean ====
abbrev S33024x1024 : Shape := ⟨2, ![33024, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S768x1024 : Shape := ⟨2, ![768, 1024]⟩
abbrev S1024x1408 : Shape := ⟨2, ![1024, 1408]⟩
abbrev S1408x1024 : Shape := ⟨2, ![1408, 1024]⟩
abbrev S768x1408 : Shape := ⟨2, ![768, 1408]⟩
abbrev S768 : Shape := ⟨1, ![768]⟩
abbrev S768x1 : Shape := ⟨2, ![768, 1]⟩

abbrev nBuf : Space → Nat
  | .hbm => 13
  | .vmem => 15
  | .smem => 0
  | _ => 0

abbrev bufTy : (tb : Table) → Fin (tcTables nBuf tb) → BufTy
  | .hbm, ⟨0, _⟩ => ⟨S33024x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S33024x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S33024x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .bf16⟩
  | .local _ .vmem, ⟨3, _⟩ => ⟨S768x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1x1024, .f32⟩
  | .local _ .vmem, ⟨11, _⟩ => ⟨S1x1024, .f32⟩
  | .local _ .vmem, ⟨12, _⟩ => ⟨S768x1024, .f32⟩
  | .local _ .vmem, ⟨13, _⟩ => ⟨S768x1024, .f32⟩
  | .local _ .vmem, ⟨14, _⟩ => ⟨S768x1024, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![43, 2], ![false, false]⟩

def k0_cond3 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DenseRefIdeal.lean ====
abbrev S33024x1024 : Shape := ⟨2, ![33024, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S33024x2816 : Shape := ⟨2, ![33024, 2816]⟩
abbrev S33024 : Shape := ⟨1, ![33024]⟩
abbrev S33024x1 : Shape := ⟨2, ![33024, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S33024x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S33024x1024, .f32⟩
  | .hbm, ⟨8, _⟩ => ⟨S33024x1024, .f32⟩
  | .hbm, ⟨9, _⟩ => ⟨S33024x2816, .f32⟩
  | .hbm, ⟨10, _⟩ => ⟨S33024x2816, .f32⟩
  | .hbm, ⟨11, _⟩ => ⟨S33024x2816, .f32⟩
  | .hbm, ⟨12, _⟩ => ⟨S_, .f32⟩
  | .hbm, ⟨13, _⟩ => ⟨S33024x2816, .f32⟩
  | .hbm, ⟨14, _⟩ => ⟨S33024x2816, .f32⟩
  | .hbm, ⟨15, _⟩ => ⟨S_, .f32⟩
  | .hbm, ⟨16, _⟩ => ⟨S33024x2816, .f32⟩
  | .hbm, ⟨17, _⟩ => ⟨S33024x2816, .f32⟩
  | .hbm, ⟨18, _⟩ => ⟨S33024x2816, .f32⟩
  | .hbm, ⟨19, _⟩ => ⟨S33024x2816, .f32⟩
  | .hbm, ⟨20, _⟩ => ⟨S33024x2816, .f32⟩
  | .hbm, ⟨21, _⟩ => ⟨S33024x1024, .f32⟩
  | .hbm, ⟨22, _⟩ => ⟨S33024x1024, .f32⟩
  | .hbm, ⟨23, _⟩ => ⟨S_, .f32⟩
  | .hbm, ⟨24, _⟩ => ⟨S33024, .f32⟩
  | .hbm, ⟨25, _⟩ => ⟨S33024x1, .f32⟩
  | .hbm, ⟨26, _⟩ => ⟨S_, .f32⟩
  | .hbm, ⟨27, _⟩ => ⟨S33024x1, .f32⟩
  | .hbm, ⟨28, _⟩ => ⟨S33024x1, .f32⟩
  | .hbm, ⟨29, _⟩ => ⟨S33024x1024, .f32⟩
  | .hbm, ⟨30, _⟩ => ⟨S33024x1024, .f32⟩
  | .hbm, ⟨31, _⟩ => ⟨S33024x1024, .f32⟩
  | .hbm, ⟨32, _⟩ => ⟨S_, .f32⟩
  | .hbm, ⟨33, _⟩ => ⟨S33024, .f32⟩
  | .hbm, ⟨34, _⟩ => ⟨S33024x1, .f32⟩
  | .hbm, ⟨35, _⟩ => ⟨S_, .f32⟩
  | .hbm, ⟨36, _⟩ => ⟨S33024x1, .f32⟩
  | .hbm, ⟨37, _⟩ => ⟨S33024x1, .f32⟩
  | .hbm, ⟨38, _⟩ => ⟨S33024x1024, .f32⟩
  | .hbm, ⟨39, _⟩ => ⟨S33024x1024, .f32⟩
  | .hbm, ⟨40, _⟩ => ⟨S_, .f32⟩
  | .hbm, ⟨41, _⟩ => ⟨S33024x1, .f32⟩
  | .hbm, ⟨42, _⟩ => ⟨S33024x1, .f32⟩
  | .hbm, ⟨43, _⟩ => ⟨S33024x1, .f32⟩
  | .hbm, ⟨44, _⟩ => ⟨S33024x1024, .f32⟩
  | .hbm, ⟨45, _⟩ => ⟨S33024x1024, .f32⟩
  | .hbm, ⟨46, _⟩ => ⟨S1x1024, .f32⟩
  | .hbm, ⟨47, _⟩ => ⟨S33024x1024, .f32⟩
  | .hbm, ⟨48, _⟩ => ⟨S33024x1024, .f32⟩
  | .hbm, ⟨49, _⟩ => ⟨S1x1024, .f32⟩
  | .hbm, ⟨50, _⟩ => ⟨S33024x1024, .f32⟩
  | .hbm, ⟨51, _⟩ => ⟨S33024x1024, .f32⟩
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Proof.Scan.lean ====
module

public import Idealize.ShloMosaic.Lib.Pipeline.ValueKit
public import Idealize.ShloMosaic.Lib.Pipeline.ReadBack
public import Idealize.ShloMosaic.Lib.Pointwise
public import proofs.«01_k».proof.Proof.Gen.KernelIdeal.Value

/-!
# One chunk of the gated DeltaNet recurrence, read at an index

The state of a head is a 128 by 128 matrix. A chunk reads the state through the stacked keys and queries (`scanRead`), takes
what it reads off the chunk's values (`scanDelta`), carries the decayed state with the new key-value products on (`scanState`),
and gives each query's output (`scanOut`), which the gated normalisation follows (`gatedOut`). The lemmas below say that each
of the three kinds of grid points (first chunk, middle chunk, last chunk) computes just that, for each of the four heads of
each of the four sequences of a block.
-/

set_option maxRecDepth 16384
set_option maxHeartbeats 2000000

@[expose] public section

noncomputable section

namespace Cert.Scan

open Idealize.ShloMosaic Idealize.ShloMosaic.TcCoe Idealize.SL.Sem
open Cert.KernelIdeal Cert.KernelIdeal.Gen

/-- Row `r` of the stacked keys (first 64 rows) and decayed queries (last 64 rows) against column `v` of the state. -/
def scanRead (wq : Vec Ideal S4x128x512 .bf16) (s : Vec Ideal S4x4x128x128 .f32) (g h : Fin 4) (r v : Fin 128) : EReal :=
  ∑ k : Fin 128, (wq (ix3 g r ⟨128 * h.val + k.val, by omega⟩) : EReal) * s (ix4 g h k v)

/-- What the chunk's row `r` adds: its value less what the state already holds for its key. -/
def scanDelta (u : Vec Ideal S4x64x512 .f32) (wq : Vec Ideal S4x128x512 .bf16) (s : Vec Ideal S4x4x128x128 .f32)
    (g h : Fin 4) (r : Fin 64) (v : Fin 128) : EReal :=
  (u (ix3 g r ⟨128 * h.val + v.val, by omega⟩) : EReal) - scanRead wq s g h ⟨r.val, by omega⟩ v

/-- The state after the chunk: the old state decayed, plus the decayed keys times what the rows add. -/
def scanState (u : Vec Ideal S4x64x512 .f32) (wq : Vec Ideal S4x128x512 .bf16) (kt : Vec Ideal S4x1x4x128x64 .bf16)
    (eg : Vec Ideal S4x1x8x128 .f32) (s : Vec Ideal S4x4x128x128 .f32) (g h : Fin 4) (k v : Fin 128) : EReal :=
  s (ix4 g h k v) * eg (ix4 g 0 0 ⟨72 + h.val, by omega⟩) + ∑ r : Fin 64, kt (ix5 g 0 h k r) * scanDelta u wq s g h r v

/-- The output of the chunk's row `r`: its query against the old state, plus its scores against what the rows add. -/
def scanOut (u : Vec Ideal S4x64x512 .f32) (wq : Vec Ideal S4x128x512 .bf16) (qk : Vec Ideal S4x1x4x64x64 .bf16)
    (s : Vec Ideal S4x4x128x128 .f32) (g h : Fin 4) (r : Fin 64) (v : Fin 128) : EReal :=
  scanRead wq s g h ⟨64 + r.val, by omega⟩ v + ∑ j : Fin 64, qk (ix5 g 0 h r j) * scanDelta u wq s g h j v

/-- The gated normalisation of one entry `o v` of a row `o` of 128: divided by the root mean square, times the weight, times
    `z · sigmoid z`. -/
def gatedOut (o : Fin 128 → EReal) (gn : EReal) (z : EReal) (v : Fin 128) : EReal :=
  FloatOps.mulf (F := Ideal) (φ := .f32)
    (FloatOps.mulf (F := Ideal) (φ := .f32)
      (FloatOps.mulf (F := Ideal) (φ := .f32) (o v)
        (FloatOps.rsqrt (F := Ideal) (φ := .f32) (FloatOps.addf (F := Ideal) (φ := .f32)
          (FloatOps.divf (F := Ideal) (φ := .f32) (∑ k : Fin 128, o k * o k) (Ideal.ofBits .f32 0x43000000#32))
          (Ideal.ofBits .f32 0x358637BD#32)))) gn)
    (FloatOps.mulf (F := Ideal) (φ := .f32) z (FloatOps.divf (F := Ideal) (φ := .f32) (Ideal.ofBits .f32 0x3F800000#32)
      (FloatOps.addf (F := Ideal) (φ := .f32) (Ideal.ofBits .f32 0x3F800000#32)
        (FloatOps.exp (F := Ideal) (φ := .f32) (FloatOps.subf (F := Ideal) (φ := .f32) (Ideal.ofBits .f32 0x00000000#32) z)))))

/-- The gate's block of sequence `g` of the four. -/
def zOf (z0 z1 z2 z3 : Vec Ideal S64x512 .f32) (g : Fin 4) : Vec Ideal S64x512 .f32 := ![z0, z1, z2, z3] g

/-- Stores that cover an index hide one made before them. -/
theorem canon_hide {Val : EltTy → Type} [∀ e, Nonempty (Val e)] {S : Shape} {e : EltTy} (q : View.Piece Val S e) (y : S.Idx) :
    ∀ L : List (View.Piece Val S e), (∃ p ∈ L, y ∈ p.1.set) → View.canon (L ++ [q]) y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_hide q y L ?_
      obtain ⟨r, hr, hy⟩ := h
      rcases List.mem_cons.mp hr with rfl | hr'
      · exact absurd hy hm
      · exact ⟨r, hr', hy⟩

/-- The store made first (the last of the list) is hidden where the others cover the index. -/
theorem canon_hide_last {Val : EltTy → Type} [∀ e, Nonempty (Val e)] {S : Shape} {e : EltTy} (L : List (View.Piece Val S e)) (y : S.Idx)
    (h : ∃ p ∈ L.dropLast, y ∈ p.1.set) : View.canon L y = View.canon L.dropLast y := by
  have hL : L ≠ [] := by rintro rfl; simp at h
  conv_lhs => rw [← List.dropLast_append_getLast hL]
  exact canon_hide _ y _ h

variable (m : (ℓ : Loc nD τ sig) → Buf (Elt Ideal) ℓ)

/-- A first chunk, which starts from the given state: the state it leaves. -/
theorem state_A (c : Dev nD) (t : Fin cfg0.N) (h0 : t.val % 32 = 0) (h1 : ¬t.val % 32 = 31) (g h : Fin 4) (k v : Fin 128) :
    (outsAt0 m c t.val t.isLt).2.2 (ix4 g h k v) =
      scanState (iblk m c 0 t) (iblk m c 1 t) (iblk m c 3 t) (iblk m c 4 t)
        (iblk m c 9 t) g h k v := by
  rw [outsAt0_A m c t h0 h1]
  dsimp only
  frame_open
  simp (disch := decide) only [↓ View.readCov_skip, ↓ View.readCov_cons_toLoadRect, ↓ View.readCov_fill]
  frame_out
  generalize iblk m c 0 t = x0
  generalize iblk m c 1 t = x1
  generalize iblk m c 3 t = x3
  generalize iblk m c 4 t = x4
  generalize iblk m c 9 t = x9
  refine (canon_hide_last (Val := Elt Ideal) (S := S4x4x128x128) (e := .f32) _ _ ?_).trans ?_
  · exact View.cover_of_tiledL (s := S4x4x128x128) _ S1x1x128x128.size (by sl_kernel_rfl) _
  dsimp only [List.dropLast]
  canon_tiles x hh
  all_goals
    idx_vars x
    obtain rfl := Fin.ext hh2
    obtain rfl := Fin.ext hh3
    obtain rfl := Subsingleton.elim x0 0
    obtain rfl := Subsingleton.elim x1 0
    obtain ⟨g, hgl⟩ := g
    obtain ⟨h, hhl⟩ := h
    simp only [Fin.val_zero, Nat.add_zero] at hh0 hh1
    subst hh0 hh1
    unfold_payloads
    pointwise [scanState, scanDelta, scanRead]

/-- A first chunk, which starts from the given state: the rows it writes. -/
theorem out_A (c : Dev nD) (t : Fin cfg0.N) (h0 : t.val % 32 = 0) (h1 : ¬t.val % 32 = 31) (g h : Fin 4) (r : Fin 64) (v : Fin 128) :
    (outsAt0 m c t.val t.isLt).1 (ix3 g r ⟨128 * h.val + v.val, by omega⟩) =
      gatedOut (fun w => scanOut (iblk m c 0 t) (iblk m c 1 t) (iblk m c 2 t)
          (iblk m c 9 t) g h r w)
        (iblk m c 10 t (ix2 0 v)) (zOf (iblk m c 5 t) (iblk m c 6 t) (iblk m c 7 t) (iblk m c 8 t) g (ix2 r ⟨128 * h.val + v.val, by omega⟩)) v := by
  rw [outsAt0_A m c t h0 h1]
  dsimp only
  frame_open
  simp (disch := decide) only [↓ View.readCov_skip, ↓ View.readCov_cons_toLoadRect, ↓ View.readCov_fill]
  frame_out
  generalize iblk m c 0 t = x0
  generalize iblk m c 1 t = x1
  generalize iblk m c 2 t = x2
  generalize iblk m c 5 t = x5
  generalize iblk m c 6 t = x6
  generalize iblk m c 7 t = x7
  generalize iblk m c 8 t = x8
  generalize iblk m c 10 t = x10
  generalize iblk m c 9 t = x9
  canon_tiles x hh
  all_goals
    idx_vars x
    obtain rfl := Fin.ext hh1
    obtain rfl := Subsingleton.elim x0 0
    obtain ⟨g, hgl⟩ := g
    obtain ⟨h, hhl⟩ := h
    obtain ⟨v, hvl⟩ := v
    obtain ⟨x2, hxl⟩ := x2
    simp only [Fin.val_zero, Nat.add_zero] at hh0 hh2
    subst hh0
    interval_cases h
    all_goals first | (exfalso; omega) | skip
    obtain rfl : v = x2 := by omega
    unfold_payloads
    pointwise [gatedOut, scanOut, scanDelta, scanRead, zOf]

/-- A middle chunk: the state it leaves. -/
theorem state_B (c : Dev nD) (t : Fin cfg0.N) (h0 : ¬t.val % 32 = 0) (h1 : ¬t.val % 32 = 31) (g h : Fin 4) (k v : Fin 128) :
    (outsAt0 m c t.val t.isLt).2.2 (ix4 g h k v) =
      scanState (iblk m c 0 t) (iblk m c 1 t) (iblk m c 3 t) (iblk m c 4 t)
        (outsAt0 m c (t.val - 1) (Nat.lt_of_le_of_lt (Nat.sub_le _ _) t.isLt)).2.2 g h k v := by
  rw [outsAt0_B m c t h0 h1]
  dsimp only
  frame_out
  simp only [read_unread_whole]
  generalize (outsAt0 m c (t.val - 1) (Nat.lt_of_le_of_lt (Nat.sub_le _ _) t.isLt)).2.2 = s
  generalize iblk m c 0 t = x0
  generalize iblk m c 1 t = x1
  generalize iblk m c 3 t = x3
  generalize iblk m c 4 t = x4
  canon_tiles x hh
  all_goals
    idx_vars x
    obtain rfl := Fin.ext hh2
    obtain rfl := Fin.ext hh3
    obtain rfl := Subsingleton.elim x0 0
    obtain rfl := Subsingleton.elim x1 0
    obtain ⟨g, hgl⟩ := g
    obtain ⟨h, hhl⟩ := h
    simp only [Fin.val_zero, Nat.add_zero] at hh0 hh1
    subst hh0 hh1
    unfold_payloads
    pointwise [scanState, scanDelta, scanRead]

/-- A middle chunk: the rows it writes. -/
theorem out_B (c : Dev nD) (t : Fin cfg0.N) (h0 : ¬t.val % 32 = 0) (h1 : ¬t.val % 32 = 31) (g h : Fin 4) (r : Fin 64) (v : Fin 128) :
    (outsAt0 m c t.val t.isLt).1 (ix3 g r ⟨128 * h.val + v.val, by omega⟩) =
      gatedOut (fun w => scanOut (iblk m c 0 t) (iblk m c 1 t) (iblk m c 2 t)
          (outsAt0 m c (t.val - 1) (Nat.lt_of_le_of_lt (Nat.sub_le _ _) t.isLt)).2.2 g h r w)
        (iblk m c 10 t (ix2 0 v)) (zOf (iblk m c 5 t) (iblk m c 6 t) (iblk m c 7 t) (iblk m c 8 t) g (ix2 r ⟨128 * h.val + v.val, by omega⟩)) v := by
  rw [outsAt0_B m c t h0 h1]
  dsimp only
  frame_out
  simp only [read_unread_whole]
  generalize (outsAt0 m c (t.val - 1) (Nat.lt_of_le_of_lt (Nat.sub_le _ _) t.isLt)).2.2 = s
  generalize iblk m c 0 t = x0
  generalize iblk m c 1 t = x1
  generalize iblk m c 2 t = x2
  generalize iblk m c 5 t = x5
  generalize iblk m c 6 t = x6
  generalize iblk m c 7 t = x7
  generalize iblk m c 8 t = x8
  generalize iblk m c 10 t = x10
  canon_tiles x hh
  all_goals
    idx_vars x
    obtain rfl := Fin.ext hh1
    obtain rfl := Subsingleton.elim x0 0
    obtain ⟨g, hgl⟩ := g
    obtain ⟨h, hhl⟩ := h
    obtain ⟨v, hvl⟩ := v
    obtain ⟨x2, hxl⟩ := x2
    simp only [Fin.val_zero, Nat.add_zero] at hh0 hh2
    subst hh0
    interval_cases h
    all_goals first | (exfalso; omega) | skip
    obtain rfl : v = x2 := by omega
    unfold_payloads
    pointwise [gatedOut, scanOut, scanDelta, scanRead, zOf]

/-- The last chunk: the state it leaves. -/
theorem state_C (c : Dev nD) (t : Fin cfg0.N) (h0 : ¬t.val % 32 = 0) (h1 : t.val % 32 = 31) (g h : Fin 4) (k v : Fin 128) :
    (outsAt0 m c t.val t.isLt).2.2 (ix4 g h k v) =
      scanState (iblk m c 0 t) (iblk m c 1 t) (iblk m c 3 t) (iblk m c 4 t)
        (outsAt0 m c (t.val - 1) (Nat.lt_of_le_of_lt (Nat.sub_le _ _) t.isLt)).2.2 g h k v := by
  rw [outsAt0_C m c t h0 h1]
  dsimp only
  frame_out
  simp only [read_unread_whole]
  generalize (outsAt0 m c (t.val - 1) (Nat.lt_of_le_of_lt (Nat.sub_le _ _) t.isLt)).2.2 = s
  generalize iblk m c 0 t = x0
  generalize iblk m c 1 t = x1
  generalize iblk m c 3 t = x3
  generalize iblk m c 4 t = x4
  canon_tiles x hh
  all_goals
    idx_vars x
    obtain rfl := Fin.ext hh2
    obtain rfl := Fin.ext hh3
    obtain rfl := Subsingleton.elim x0 0
    obtain rfl := Subsingleton.elim x1 0
    obtain ⟨g, hgl⟩ := g
    obtain ⟨h, hhl⟩ := h
    simp only [Fin.val_zero, Nat.add_zero] at hh0 hh1
    subst hh0 hh1
    unfold_payloads
    pointwise [scanState, scanDelta, scanRead]

/-- The last chunk: the rows it writes. -/
theorem out_C (c : Dev nD) (t : Fin cfg0.N) (h0 : ¬t.val % 32 = 0) (h1 : t.val % 32 = 31) (g h : Fin 4) (r : Fin 64) (v : Fin 128) :
    (outsAt0 m c t.val t.isLt).1 (ix3 g r ⟨128 * h.val + v.val, by omega⟩) =
      gatedOut (fun w => scanOut (iblk m c 0 t) (iblk m c 1 t) (iblk m c 2 t)
          (outsAt0 m c (t.val - 1) (Nat.lt_of_le_of_lt (Nat.sub_le _ _) t.isLt)).2.2 g h r w)
        (iblk m c 10 t (ix2 0 v)) (zOf (iblk m c 5 t) (iblk m c 6 t) (iblk m c 7 t) (iblk m c 8 t) g (ix2 r ⟨128 * h.val + v.val, by omega⟩)) v := by
  rw [outsAt0_C m c t h0 h1]
  dsimp only
  frame_out
  simp only [read_unread_whole]
  generalize (outsAt0 m c (t.val - 1) (Nat.lt_of_le_of_lt (Nat.sub_le _ _) t.isLt)).2.2 = s
  generalize iblk m c 0 t = x0
  generalize iblk m c 1 t = x1
  generalize iblk m c 2 t = x2
  generalize iblk m c 5 t = x5
  generalize iblk m c 6 t = x6
  generalize iblk m c 7 t = x7
  generalize iblk m c 8 t = x8
  generalize iblk m c 10 t = x10
  canon_tiles x hh
  all_goals
    idx_vars x
    obtain rfl := Fin.ext hh1
    obtain rfl := Subsingleton.elim x0 0
    obtain ⟨g, hgl⟩ := g
    obtain ⟨h, hhl⟩ := h
    obtain ⟨v, hvl⟩ := v
    obtain ⟨x2, hxl⟩ := x2
    simp only [Fin.val_zero, Nat.add_zero] at hh0 hh2
    subst hh0
    interval_cases h
    all_goals first | (exfalso; omega) | skip
    obtain rfl : v = x2 := by omega
    unfold_payloads
    pointwise [gatedOut, scanOut, scanDelta, scanRead, zOf]

/-- The last chunk: the copy of the state it writes out. -/
theorem result_C (c : Dev nD) (t : Fin cfg0.N) (h0 : ¬t.val % 32 = 0) (h1 : t.val % 32 = 31) (g h : Fin 4) (k v : Fin 128) :
    (outsAt0 m c t.val t.isLt).2.1 (ix4 g h k v) =
      scanState (iblk m c 0 t) (iblk m c 1 t) (iblk m c 3 t) (iblk m c 4 t)
        (outsAt0 m c (t.val - 1) (Nat.lt_of_le_of_lt (Nat.sub_le _ _) t.isLt)).2.2 g h k v := by
  rw [outsAt0_C m c t h0 h1]
  dsimp only
  frame_out
  simp only [read_unread_whole]
  generalize (outsAt0 m c (t.val - 1) (Nat.lt_of_le_of_lt (Nat.sub_le _ _) t.isLt)).2.2 = s
  generalize iblk m c 0 t = x0
  generalize iblk m c 1 t = x1
  generalize iblk m c 3 t = x3
  generalize iblk m c 4 t = x4
  rw [View.readCov_eq_canon']
  pointwise
  canon_tiles x hh
  all_goals
    idx_vars x
    obtain rfl := Fin.ext hh2
    obtain rfl := Fin.ext hh3
    obtain rfl := Subsingleton.elim x0 0
    obtain rfl := Subsingleton.elim x1 0
    obtain ⟨g, hgl⟩ := g
    obtain ⟨h, hhl⟩ := h
    simp only [Fin.val_zero, Nat.add_zero] at hh0 hh1
    subst hh0 hh1
    unfold_payloads
    pointwise [scanState, scanDelta, scanRead]

end Cert.Scan

end

end
-- ==== Proof.ScanBlocks.lean ====
module

public import Idealize.ShloMosaic.Lib.Claim
public import proofs.«01_k».proof.Proof.Scan

/-!
# The recurrence over the whole arrays

The same recurrence as in `Scan`, over all sixteen sequences and over the arrays as the programs take them, and the kernel's
grid as its chunks: point `32 i + n` is chunk `n` of sequences `4 i` to `4 i + 3`.
-/

set_option maxRecDepth 16384

@[expose] public section

noncomputable section

namespace Cert.Scan

open Idealize.ShloMosaic Idealize.ShloMosaic.TcCoe Idealize.SL.Sem
open Cert.KernelIdeal Cert.KernelIdeal.Gen

/-- The states of all heads of all sequences. -/
abbrev States : Type := Fin 16 → Fin 4 → Fin 128 → Fin 128 → EReal

/-- The arrays of the recurrence: the values, the stacked keys and queries, the scores, the decayed keys, the decays, the gates,
    the first state and the weight of the normalisation. -/
structure Arrays where
  u : Vec Ideal S32768x512 .f32
  wq : Vec Ideal S512x128x512 .bf16
  qk : Vec Ideal S512x4x64x64 .bf16
  kt : Vec Ideal S512x4x128x64 .bf16
  eg : Vec Ideal S512x8x128 .f32
  z : Vec Ideal S33024x5120 .f32
  s0 : Vec Ideal S16x4x128x128 .f32
  gn : Vec Ideal S128 .f32

variable (A : Arrays)

/-- Row `r` of the stacked keys and queries of chunk `n` of sequence `b` against column `v` of the state. -/
def readAll (s : States) (n : Fin 32) (b : Fin 16) (h : Fin 4) (r v : Fin 128) : EReal :=
  ∑ k : Fin 128, (A.wq (ix3 ⟨32 * b.val + n.val, by omega⟩ r ⟨128 * h.val + k.val, by omega⟩) : EReal) * s b h k v

/-- What row `r` of the chunk adds to the state. -/
def deltaAll (s : States) (n : Fin 32) (b : Fin 16) (h : Fin 4) (r : Fin 64) (v : Fin 128) : EReal :=
  (A.u (ix2 ⟨2048 * b.val + 64 * n.val + r.val, by omega⟩ ⟨128 * h.val + v.val, by omega⟩) : EReal)
    - readAll A s n b h ⟨r.val, by omega⟩ v

/-- The state after the chunk. -/
def nextAll (s : States) (n : Fin 32) : States := fun b h k v =>
  s b h k v * A.eg (ix3 ⟨32 * b.val + n.val, by omega⟩ 0 ⟨72 + h.val, by omega⟩)
    + ∑ r : Fin 64, A.kt (ix4 ⟨32 * b.val + n.val, by omega⟩ h k r) * deltaAll A s n b h r v

/-- The output of row `r` of the chunk. -/
def outAll (s : States) (n : Fin 32) (b : Fin 16) (h : Fin 4) (r : Fin 64) (v : Fin 128) : EReal :=
  readAll A s n b h ⟨64 + r.val, by omega⟩ v
    + ∑ j : Fin 64, A.qk (ix4 ⟨32 * b.val + n.val, by omega⟩ h r j) * deltaAll A s n b h j v

/-- The states before chunk `n`. -/
def stateAt : ℕ → States
  | 0 => fun b h k v => A.s0 (ix4 b h k v)
  | n + 1 => if hn : n < 32 then nextAll A (stateAt n) ⟨n, hn⟩ else stateAt n

/-- The row the recurrence writes for row `r` of chunk `n`: its output, gated and normalised. -/
def rowAt (n : Fin 32) (b : Fin 16) (h : Fin 4) (r : Fin 64) (v : Fin 128) : EReal :=
  gatedOut (fun w => outAll A (stateAt A n.val) n b h r w) (A.gn (ix1 v))
    (A.z (ix2 ⟨2048 * b.val + 64 * n.val + r.val, by omega⟩ ⟨3584 + 128 * h.val + v.val, by omega⟩)) v

variable (m : (ℓ : Loc nD τ sig) → Buf (Elt Ideal) ℓ)

/-- The kernel's arrays. -/
def arrays (c : Dev nD) : Arrays where
  u := m ((c : Thread nD τ).loc main_arg0)
  wq := m ((c : Thread nD τ).loc main_arg1)
  qk := m ((c : Thread nD τ).loc main_arg2)
  kt := m ((c : Thread nD τ).loc main_arg3)
  eg := m ((c : Thread nD τ).loc main_arg4)
  z := m ((c : Thread nD τ).loc main_arg5)
  s0 := m ((c : Thread nD τ).loc main_arg6)
  gn := m ((c : Thread nD τ).loc main_arg7)

theorem index_facts : ∀ t : Fin cfg0.N,
    win0_0.index t = ![t.val / 32, t.val % 32, 0] ∧ win0_1.index t = ![t.val / 32, t.val % 32, 0]
    ∧ win0_2.index t = ![t.val / 32, t.val % 32, 0, 0, 0] ∧ win0_3.index t = ![t.val / 32, t.val % 32, 0, 0, 0]
    ∧ win0_4.index t = ![t.val / 32, t.val % 32, 0, 0] ∧ win0_5.index t = ![128 * (t.val / 32) + t.val % 32, 7]
    ∧ win0_6.index t = ![128 * (t.val / 32) + 32 + t.val % 32, 7] ∧ win0_7.index t = ![128 * (t.val / 32) + 64 + t.val % 32, 7]
    ∧ win0_8.index t = ![128 * (t.val / 32) + 96 + t.val % 32, 7]
    ∧ win0_9.index t = ![t.val / 32, 0, 0, 0] ∧ win0_10.index t = ![0, 0] := by decide +kernel

/-- The sequence that place `g` of a block holds at point `t`. -/
abbrev seqOf (t : Fin cfg0.N) (g : Fin 4) : Fin 16 := ⟨4 * (t.val / 32) + g.val, by have := lt_of_lt_of_eq t.isLt N_0; omega⟩
/-- The chunk of point `t`. -/
abbrev chunkOf (t : Fin cfg0.N) : Fin 32 := ⟨t.val % 32, Nat.mod_lt _ (by decide)⟩

/-- The values' block. -/
theorem u_block (c : Dev nD) (t : Fin cfg0.N) (g : Fin 4) (r : Fin 64) (x : Fin 512) :
    iblk m c 0 t (ix3 g r x) = (arrays m c).u (ix2 ⟨2048 * (seqOf t g).val + 64 * (chunkOf t).val + r.val, by have := (seqOf t g).isLt; have := (chunkOf t).isLt; omega⟩ x) := by
  have hN := lt_of_lt_of_eq t.isLt N_0
  have e := index_facts t
  blk_ext! [arrays, iblk, e.1]

/-- The keys' and queries' block. -/
theorem wq_block (c : Dev nD) (t : Fin cfg0.N) (g : Fin 4) (r : Fin 128) (x : Fin 512) :
    iblk m c 1 t (ix3 g r x) = (arrays m c).wq (ix3 ⟨32 * (seqOf t g).val + (chunkOf t).val, by have := (seqOf t g).isLt; have := (chunkOf t).isLt; omega⟩ r x) := by
  have hN := lt_of_lt_of_eq t.isLt N_0
  have e := index_facts t
  blk_ext! [arrays, iblk, e.2.1]

/-- The scores' block. -/
theorem qk_block (c : Dev nD) (t : Fin cfg0.N) (g h : Fin 4) (r j : Fin 64) :
    iblk m c 2 t (ix5 g 0 h r j) = (arrays m c).qk (ix4 ⟨32 * (seqOf t g).val + (chunkOf t).val, by have := (seqOf t g).isLt; have := (chunkOf t).isLt; omega⟩ h r j) := by
  have hN := lt_of_lt_of_eq t.isLt N_0
  have e := index_facts t
  blk_ext! [arrays, iblk, e.2.2.1]

/-- The decayed keys' block. -/
theorem kt_block (c : Dev nD) (t : Fin cfg0.N) (g h : Fin 4) (k : Fin 128) (r : Fin 64) :
    iblk m c 3 t (ix5 g 0 h k r) = (arrays m c).kt (ix4 ⟨32 * (seqOf t g).val + (chunkOf t).val, by have := (seqOf t g).isLt; have := (chunkOf t).isLt; omega⟩ h k r) := by
  have hN := lt_of_lt_of_eq t.isLt N_0
  have e := index_facts t
  blk_ext! [arrays, iblk, e.2.2.2.1]

/-- The decays' block. -/
theorem eg_block (c : Dev nD) (t : Fin cfg0.N) (g : Fin 4) (a : Fin 8) (x : Fin 128) :
    iblk m c 4 t (ix4 g 0 a x) = (arrays m c).eg (ix3 ⟨32 * (seqOf t g).val + (chunkOf t).val, by have := (seqOf t g).isLt; have := (chunkOf t).isLt; omega⟩ a x) := by
  have hN := lt_of_lt_of_eq t.isLt N_0
  have e := index_facts t
  blk_ext! [arrays, iblk, e.2.2.2.2.1]

/-- The first states' block. -/
theorem s0_block (c : Dev nD) (t : Fin cfg0.N) (g h : Fin 4) (k v : Fin 128) :
    iblk m c 9 t (ix4 g h k v) = (arrays m c).s0 (ix4 (seqOf t g) h k v) := by
  have hN := lt_of_lt_of_eq t.isLt N_0
  have e := index_facts t
  blk_ext! [arrays, iblk, e.2.2.2.2.2.2.2.2.2.1]

/-- The weight's block. -/
theorem gn_block (c : Dev nD) (t : Fin cfg0.N) (v : Fin 128) :
    iblk m c 10 t (ix2 0 v) = (arrays m c).gn (ix1 v) := by
  have hN := lt_of_lt_of_eq t.isLt N_0
  have e := index_facts t
  blk_ext! [arrays, iblk, e.2.2.2.2.2.2.2.2.2.2]

/-- The gates' block of place 0. -/
theorem z_block0 (c : Dev nD) (t : Fin cfg0.N) (r : Fin 64) (x : Fin 512) :
    iblk m c 5 t (ix2 r x) = (arrays m c).z (ix2 ⟨2048 * (seqOf t 0).val + 64 * (chunkOf t).val + r.val, by have := (seqOf t 0).isLt; have := (chunkOf t).isLt; omega⟩ ⟨3584 + x.val, by omega⟩) := by
  have hN := lt_of_lt_of_eq t.isLt N_0
  have e := index_facts t
  blk_ext! [arrays, iblk, e.2.2.2.2.2.1]

/-- The gates' block of place 1. -/
theorem z_block1 (c : Dev nD) (t : Fin cfg0.N) (r : Fin 64) (x : Fin 512) :
    iblk m c 6 t (ix2 r x) = (arrays m c).z (ix2 ⟨2048 * (seqOf t 1).val + 64 * (chunkOf t).val + r.val, by have := (seqOf t 1).isLt; have := (chunkOf t).isLt; omega⟩ ⟨3584 + x.val, by omega⟩) := by
  have hN := lt_of_lt_of_eq t.isLt N_0
  have e := index_facts t
  blk_ext! [arrays, iblk, e.2.2.2.2.2.2.1]

/-- The gates' block of place 2. -/
theorem z_block2 (c : Dev nD) (t : Fin cfg0.N) (r : Fin 64) (x : Fin 512) :
    iblk m c 7 t (ix2 r x) = (arrays m c).z (ix2 ⟨2048 * (seqOf t 2).val + 64 * (chunkOf t).val + r.val, by have := (seqOf t 2).isLt; have := (chunkOf t).isLt; omega⟩ ⟨3584 + x.val, by omega⟩) := by
  have hN := lt_of_lt_of_eq t.isLt N_0
  have e := index_facts t
  blk_ext! [arrays, iblk, e.2.2.2.2.2.2.2.1]

/-- The gates' block of place 3. -/
theorem z_block3 (c : Dev nD) (t : Fin cfg0.N) (r : Fin 64) (x : Fin 512) :
    iblk m c 8 t (ix2 r x) = (arrays m c).z (ix2 ⟨2048 * (seqOf t 3).val + 64 * (chunkOf t).val + r.val, by have := (seqOf t 3).isLt; have := (chunkOf t).isLt; omega⟩ ⟨3584 + x.val, by omega⟩) := by
  have hN := lt_of_lt_of_eq t.isLt N_0
  have e := index_facts t
  blk_ext! [arrays, iblk, e.2.2.2.2.2.2.2.2.1]

end Cert.Scan

end

end
-- ==== Proof.ScanKernel.lean ====
module

public import proofs.«01_k».proof.Proof.ScanBlocks

/-!
# What the kernel of the recurrence leaves

By induction over a block's chunks the carried state is the recurrence's state; so each block of rows that a point writes back
is the recurrence's rows, and the states written at the last chunks are the states after thirty-two chunks.
-/

set_option maxRecDepth 16384

@[expose] public section

noncomputable section

namespace Cert.Scan

open Idealize.ShloMosaic Idealize.ShloMosaic.TcCoe Idealize.SL.Sem
open Cert.KernelIdeal Cert.KernelIdeal.Gen

variable (m : (ℓ : Loc nD τ sig) → Buf (Elt Ideal) ℓ)

section
variable (c : Dev nD) (t : Fin cfg0.N) (s : Vec Ideal S4x4x128x128 .f32) (S : States)
  (hs : ∀ g h k v, s (ix4 g h k v) = S (seqOf t g) h k v)
include hs

theorem read_block (g h : Fin 4) (r v : Fin 128) :
    scanRead (iblk m c 1 t) s g h r v = readAll (arrays m c) S (chunkOf t) (seqOf t g) h r v := by
  unfold scanRead readAll
  exact Finset.sum_congr rfl fun k _ => by rw [wq_block, hs]

theorem delta_block (g h : Fin 4) (r : Fin 64) (v : Fin 128) :
    scanDelta (iblk m c 0 t) (iblk m c 1 t) s g h r v = deltaAll (arrays m c) S (chunkOf t) (seqOf t g) h r v := by
  unfold scanDelta deltaAll
  rw [u_block, read_block m c t s S hs]

theorem next_block (g h : Fin 4) (k v : Fin 128) :
    scanState (iblk m c 0 t) (iblk m c 1 t) (iblk m c 3 t) (iblk m c 4 t) s g h k v
      = nextAll (arrays m c) S (chunkOf t) (seqOf t g) h k v := by
  unfold scanState nextAll
  rw [hs, eg_block]
  refine congrArg (_ + ·) (Finset.sum_congr rfl fun r _ => ?_)
  rw [kt_block, delta_block m c t s S hs]

theorem row_block (g h : Fin 4) (r : Fin 64) (v : Fin 128) :
    scanOut (iblk m c 0 t) (iblk m c 1 t) (iblk m c 2 t) s g h r v
      = outAll (arrays m c) S (chunkOf t) (seqOf t g) h r v := by
  unfold scanOut outAll
  rw [read_block m c t s S hs]
  refine congrArg (_ + ·) (Finset.sum_congr rfl fun j _ => ?_)
  rw [qk_block, delta_block m c t s S hs]

end

/-- The gates of every place of a block. -/
theorem z_block (c : Dev nD) (t : Fin cfg0.N) (g : Fin 4) (r : Fin 64) (x : Fin 512) :
    zOf (iblk m c 5 t) (iblk m c 6 t) (iblk m c 7 t) (iblk m c 8 t) g (ix2 r x)
      = (arrays m c).z (ix2 ⟨2048 * (seqOf t g).val + 64 * (chunkOf t).val + r.val, by have := (seqOf t g).isLt; have := (chunkOf t).isLt; omega⟩ ⟨3584 + x.val, by omega⟩) := by
  fin_cases g
  · exact z_block0 m c t r x
  · exact z_block1 m c t r x
  · exact z_block2 m c t r x
  · exact z_block3 m c t r x

/-- One more chunk. -/
theorem stateAt_succ (A : Arrays) (n : Fin 32) : stateAt A (n.val + 1) = nextAll A (stateAt A n.val) n := by
  show (if hn : n.val < 32 then nextAll A (stateAt A n.val) ⟨n.val, hn⟩ else stateAt A n.val) = _
  rw [dif_pos n.isLt]

/-- The state carried out of point `t`. -/
theorem carried (c : Dev nD) : ∀ (n : ℕ) (hn : n < cfg0.N) (g h : Fin 4) (k v : Fin 128),
    (outsAt0 m c n hn).2.2 (ix4 g h k v) = stateAt (arrays m c) (n % 32 + 1) (seqOf ⟨n, hn⟩ g) h k v := by
  intro n
  induction n using Nat.strong_induction_on with
  | _ n ih =>
    intro hn g h k v
    have hN := lt_of_lt_of_eq hn N_0
    have hsucc := stateAt_succ (arrays m c) (chunkOf ⟨n, hn⟩)
    have e1 : (chunkOf ⟨n, hn⟩).val = n % 32 := rfl
    rw [e1] at hsucc
    rw [hsucc]
    by_cases h0 : n % 32 = 0
    · rw [state_A m c ⟨n, hn⟩ h0 (by simp only; omega)]
      refine next_block m c ⟨n, hn⟩ _ _ (fun g h k v => ?_) g h k v
      rw [h0, s0_block]; rfl
    · have hp : n - 1 < cfg0.N := Nat.lt_of_le_of_lt (Nat.sub_le _ _) hn
      have hprev : ∀ g h k v, (outsAt0 m c (n - 1) hp).2.2 (ix4 g h k v) = stateAt (arrays m c) (n % 32) (seqOf ⟨n, hn⟩ g) h k v := by
        intro g h k v
        rw [ih (n - 1) (by omega) hp]
        have ea : (n - 1) % 32 + 1 = n % 32 := by omega
        have eb : seqOf ⟨n - 1, hp⟩ g = seqOf ⟨n, hn⟩ g := by
          apply Fin.ext; show 4 * ((n - 1) / 32) + g.val = 4 * (n / 32) + g.val; omega
        rw [ea, eb]
      by_cases h1 : n % 32 = 31
      · rw [state_C m c ⟨n, hn⟩ h0 h1]
        exact next_block m c ⟨n, hn⟩ _ _ hprev g h k v
      · rw [state_B m c ⟨n, hn⟩ h0 h1]
        exact next_block m c ⟨n, hn⟩ _ _ hprev g h k v

/-- The rows point `n` writes. -/
theorem rows (c : Dev nD) (n : ℕ) (hn : n < cfg0.N) (g h : Fin 4) (r : Fin 64) (v : Fin 128) :
    (outsAt0 m c n hn).1 (ix3 g r ⟨128 * h.val + v.val, by omega⟩) = rowAt (arrays m c) (chunkOf ⟨n, hn⟩) (seqOf ⟨n, hn⟩ g) h r v := by
  have hN := lt_of_lt_of_eq hn N_0
  have hz := z_block m c ⟨n, hn⟩ g r ⟨128 * h.val + v.val, by omega⟩
  have hgate : ∀ (s : Vec Ideal S4x4x128x128 .f32),
      (∀ g h k v, s (ix4 g h k v) = stateAt (arrays m c) (n % 32) (seqOf ⟨n, hn⟩ g) h k v) →
      gatedOut (fun w => scanOut (iblk m c 0 ⟨n, hn⟩) (iblk m c 1 ⟨n, hn⟩) (iblk m c 2 ⟨n, hn⟩) s g h r w)
        (iblk m c 10 ⟨n, hn⟩ (ix2 0 v)) (zOf (iblk m c 5 ⟨n, hn⟩) (iblk m c 6 ⟨n, hn⟩) (iblk m c 7 ⟨n, hn⟩) (iblk m c 8 ⟨n, hn⟩) g (ix2 r ⟨128 * h.val + v.val, by omega⟩)) v
        = rowAt (arrays m c) (chunkOf ⟨n, hn⟩) (seqOf ⟨n, hn⟩ g) h r v := by
    intro s hs
    unfold rowAt
    rw [hz, gn_block]
    have e : (fun w => scanOut (iblk m c 0 ⟨n, hn⟩) (iblk m c 1 ⟨n, hn⟩) (iblk m c 2 ⟨n, hn⟩) s g h r w)
        = fun w => outAll (arrays m c) (stateAt (arrays m c) (n % 32)) (chunkOf ⟨n, hn⟩) (seqOf ⟨n, hn⟩ g) h r w :=
      funext fun w => row_block m c ⟨n, hn⟩ s _ hs g h r w
    rw [e]
    have ei : (⟨3584 + (128 * h.val + v.val), by omega⟩ : Fin 5120) = ⟨3584 + 128 * h.val + v.val, by omega⟩ := Fin.ext (by simp only; omega)
    simp only [ei]
  by_cases h0 : n % 32 = 0
  · rw [out_A m c ⟨n, hn⟩ h0 (by simp only; omega)]
    refine hgate _ fun g h k v => ?_
    rw [h0, s0_block]; rfl
  · have hp : n - 1 < cfg0.N := Nat.lt_of_le_of_lt (Nat.sub_le _ _) hn
    have hprev : ∀ g h k v, (outsAt0 m c (n - 1) hp).2.2 (ix4 g h k v) = stateAt (arrays m c) (n % 32) (seqOf ⟨n, hn⟩ g) h k v := by
      intro g h k v
      rw [carried m c (n - 1) hp]
      have ea : (n - 1) % 32 + 1 = n % 32 := by omega
      have eb : seqOf ⟨n - 1, hp⟩ g = seqOf ⟨n, hn⟩ g := by
        apply Fin.ext; show 4 * ((n - 1) / 32) + g.val = 4 * (n / 32) + g.val; omega
      rw [ea, eb]
    by_cases h1 : n % 32 = 31
    · rw [out_C m c ⟨n, hn⟩ h0 h1]; exact hgate _ hprev
    · rw [out_B m c ⟨n, hn⟩ h0 h1]; exact hgate _ hprev

/-- The states point `n`, a last chunk, writes. -/
theorem lastStates (c : Dev nD) (n : ℕ) (hn : n < cfg0.N) (h1 : n % 32 = 31) (g h : Fin 4) (k v : Fin 128) :
    (outsAt0 m c n hn).2.1 (ix4 g h k v) = stateAt (arrays m c) 32 (seqOf ⟨n, hn⟩ g) h k v := by
  have h0 : ¬n % 32 = 0 := by omega
  have e := carried m c n hn g h k v
  rw [state_C m c ⟨n, hn⟩ h0 h1, h1] at e
  rw [result_C m c ⟨n, hn⟩ h0 h1]
  exact e

/-- THE ROWS ARRAY after the run. -/
theorem rows_array (c : Dev nD) (b : Fin 16) (n : Fin 32) (r : Fin 64) (h : Fin 4) (v : Fin 128) :
    Value.G11 m c (ix3 b ⟨64 * n.val + r.val, by omega⟩ ⟨128 * h.val + v.val, by omega⟩) = rowAt (arrays m c) n b h r v := by
  have hp : Value.pt11Of (ix3 b ⟨64 * n.val + r.val, by omega⟩ ⟨128 * h.val + v.val, by omega⟩ : S16x2048x512.Idx) = 32 * (b.val / 4) + n.val := by
    show 32 * (b.val / 4 - 0) + 1 * ((64 * n.val + r.val) / 64 - 0) + 1 * ((128 * h.val + v.val) / 512 - 0) = _
    omega
  have hlt : 32 * (b.val / 4) + n.val < cfg0.N := by rw [show cfg0.N = 128 from N_0]; omega
  have hl : Value.loc11Of (ix3 b ⟨64 * n.val + r.val, by omega⟩ ⟨128 * h.val + v.val, by omega⟩ : S16x2048x512.Idx)
      = ix3 (⟨b.val % 4, by omega⟩ : Fin 4) r (⟨128 * h.val + v.val, by omega⟩ : Fin 512) := by
    funext a
    apply Fin.ext
    match a with
    | ⟨0, _⟩ => rfl
    | ⟨1, _⟩ => show (64 * n.val + r.val) % 64 = r.val; omega
    | ⟨2, _⟩ => show (128 * h.val + v.val) % 512 = 128 * h.val + v.val; omega
  unfold Value.G11
  rw [dif_pos (by rw [hp]; exact hlt), ← Value.outsAt0_sweep m c _ (by rw [hp]; exact hlt), hl]
  simp only [hp]
  rw [rows m c _ hlt]
  have e1 : chunkOf ⟨32 * (b.val / 4) + n.val, hlt⟩ = n := Fin.ext (by show (32 * (b.val / 4) + n.val) % 32 = n.val; omega)
  have e2 : seqOf ⟨32 * (b.val / 4) + n.val, hlt⟩ ⟨b.val % 4, by omega⟩ = b :=
    Fin.ext (by show 4 * ((32 * (b.val / 4) + n.val) / 32) + b.val % 4 = b.val; omega)
  rw [e1, e2]

/-- THE STATES ARRAY after the run. -/
theorem states_array (c : Dev nD) (b : Fin 16) (h : Fin 4) (k v : Fin 128) :
    Value.G12 m c (ix4 b h k v) = stateAt (arrays m c) 32 b h k v := by
  have hp : Value.pt12Of (ix4 b h k v : S16x4x128x128.Idx) = 32 * (b.val / 4) + 31 := by
    show 32 * (1 * (b.val / 4 - 0) + 1 * (h.val / 4 - 0) + 1 * (k.val / 128 - 0) + 1 * (v.val / 128 - 0)) + 31 = _
    omega
  have hlt : 32 * (b.val / 4) + 31 < cfg0.N := by rw [show cfg0.N = 128 from N_0]; omega
  have hl : Value.loc12Of (ix4 b h k v : S16x4x128x128.Idx) = ix4 (⟨b.val % 4, by omega⟩ : Fin 4) h k v := by
    funext a
    apply Fin.ext
    match a with
    | ⟨0, _⟩ => rfl
    | ⟨1, _⟩ => show h.val % 4 = h.val; omega
    | ⟨2, _⟩ => show k.val % 128 = k.val; omega
    | ⟨3, _⟩ => show v.val % 128 = v.val; omega
  unfold Value.G12
  rw [dif_pos (by rw [hp]; exact hlt), ← Value.outsAt0_sweep m c _ (by rw [hp]; exact hlt), hl]
  simp only [hp]
  rw [lastStates m c _ hlt (by omega)]
  have e2 : seqOf ⟨32 * (b.val / 4) + 31, hlt⟩ ⟨b.val % 4, by omega⟩ = b :=
    Fin.ext (by show 4 * ((32 * (b.val / 4) + 31) / 32) + b.val % 4 = b.val; omega)
  rw [e2]

end Cert.Scan

end

end
-- ==== Proof.ScanRef.lean ====
module

public import Idealize.ShloMosaic.Lib.Claim
public import Idealize.ShloMosaic.Lib.Pointwise
public import Idealize.ShloMosaic.Lib.DynamicIndex
public import Idealize.ShloMosaic.Lib.Tactic.CleanTypes
public import proofs.«01_k».proof.Proof.ScanKernel
public import proofs.«01_k».proof.Proof.Gen.ReferenceIdeal.Run

/-!
# What the reference's scan leaves
-/

set_option maxRecDepth 16384

@[expose] public section

noncomputable section

namespace Cert.Scan.Ref

open Idealize.ShloMosaic Idealize.ShloMosaic.TcCoe Idealize.SL.Sem Idealize.ShloMosaic.StableHlo
open Cert.ReferenceIdeal Cert.ReferenceIdeal.Gen Cert.ReferenceIdeal.Value

variable (m : (ℓ : Loc nD τ sig) → Buf (Elt Ideal) ℓ) (c : Dev nD)

/-- The reference's arrays. -/
def arrays : Arrays where
  u := m ((c : Thread nD τ).loc main_arg0)
  wq := m ((c : Thread nD τ).loc main_arg1)
  qk := m ((c : Thread nD τ).loc main_arg2)
  kt := m ((c : Thread nD τ).loc main_arg3)
  eg := m ((c : Thread nD τ).loc main_arg4)
  z := m ((c : Thread nD τ).loc main_arg5)
  s0 := m ((c : Thread nD τ).loc main_arg6)
  gn := m ((c : Thread nD τ).loc main_arg7)

abbrev entry : Valuation τ sig (Elt Ideal) := entryContents preI m c

theorem entry_u (n : Fin 32) (b : Fin 16) (h : Fin 4) (r : Fin 64) (v : Fin 128) :
    (entry m c (Proc.devRef .tc main_v21_0) : Vec Ideal S32x16x4x64x128 .f32) (ix5 n b h r v) = (arrays m c).u (ix2 ⟨2048 * b.val + 64 * n.val + r.val, by omega⟩ ⟨128 * h.val + v.val, by omega⟩) := by
  unfold entry
  simp only [entryContents, afterL_cons, afterL_nil]
  entry_read
  simp only [id]
  pointwise [arrays]
  blk_ext!

theorem entry_w (n : Fin 32) (b : Fin 16) (h : Fin 4) (r : Fin 64) (k : Fin 128) :
    (entry m c (Proc.devRef .tc main_v21_1) : Vec Ideal S32x16x4x64x128 .f32) (ix5 n b h r k) = (arrays m c).wq (ix3 ⟨32 * b.val + n.val, by omega⟩ ⟨r.val, by omega⟩ ⟨128 * h.val + k.val, by omega⟩) := by
  unfold entry
  simp only [entryContents, afterL_cons, afterL_nil]
  entry_read
  simp only [id]
  pointwise [arrays]
  blk_ext!

theorem entry_qk (n : Fin 32) (b : Fin 16) (h : Fin 4) (r j : Fin 64) :
    (entry m c (Proc.devRef .tc main_v21_2) : Vec Ideal S32x16x4x64x64 .f32) (ix5 n b h r j) = (arrays m c).qk (ix4 ⟨32 * b.val + n.val, by omega⟩ h r j) := by
  unfold entry
  simp only [entryContents, afterL_cons, afterL_nil]
  entry_read
  simp only [id]
  pointwise [arrays]
  blk_ext!

theorem entry_q (n : Fin 32) (b : Fin 16) (h : Fin 4) (r : Fin 64) (k : Fin 128) :
    (entry m c (Proc.devRef .tc main_v21_3) : Vec Ideal S32x16x4x64x128 .f32) (ix5 n b h r k) = (arrays m c).wq (ix3 ⟨32 * b.val + n.val, by omega⟩ ⟨64 + r.val, by omega⟩ ⟨128 * h.val + k.val, by omega⟩) := by
  unfold entry
  simp only [entryContents, afterL_cons, afterL_nil]
  entry_read
  simp only [id]
  pointwise [arrays]
  blk_ext!

theorem entry_kt (n : Fin 32) (b : Fin 16) (h : Fin 4) (r : Fin 64) (k : Fin 128) :
    (entry m c (Proc.devRef .tc main_v21_4) : Vec Ideal S32x16x4x64x128 .f32) (ix5 n b h r k) = (arrays m c).kt (ix4 ⟨32 * b.val + n.val, by omega⟩ h k r) := by
  unfold entry
  simp only [entryContents, afterL_cons, afterL_nil]
  entry_read
  simp only [id]
  pointwise [arrays]
  blk_ext!

theorem entry_eg (n : Fin 32) (b : Fin 16) (h : Fin 4) :
    (entry m c (Proc.devRef .tc main_v21_5) : Vec Ideal S32x16x4 .f32) (ix3 n b h) = (arrays m c).eg (ix3 ⟨32 * b.val + n.val, by omega⟩ 0 ⟨72 + h.val, by omega⟩) := by
  unfold entry
  simp only [entryContents, afterL_cons, afterL_nil]
  entry_read
  simp only [id]
  pointwise [arrays]
  blk_ext!

theorem entry_s (b : Fin 16) (h : Fin 4) (k v : Fin 128) :
    (entry m c (Proc.devRef .tc main_v21_7) : Vec Ideal S16x4x128x128 .f32) (ix4 b h k v) = (arrays m c).s0 (ix4 b h k v) := by
  unfold entry
  simp only [entryContents, afterL_cons, afterL_nil]
  entry_read
  simp only [id]
  pointwise [arrays]

theorem fits_rows (n : Fin 32) : S32x16x4x64x128.Slices ![n.val, 0, 0, 0, 0] S1x16x4x64x128 :=
  ⟨rfl, fun a => by fin_cases a <;> simp <;> omega⟩
theorem fits_scores (n : Fin 32) : S32x16x4x64x64.Slices ![n.val, 0, 0, 0, 0] S1x16x4x64x64 :=
  ⟨rfl, fun a => by fin_cases a <;> simp <;> omega⟩
theorem fits_decays (n : Fin 32) : S32x16x4.Slices ![n.val, 0, 0] S1x16x4 :=
  ⟨rfl, fun a => by fin_cases a <;> simp <;> omega⟩

/-- The start of a slice at chunk `n`, of an array of five axes. -/
theorem start5 (n : Fin 32) (hS : 0 < S_.numel) : (fun k : Fin 5 => (((![fun _ => BitVec.ofNat 32 n.val, constantI S_ 32 0#32, constantI S_ 32 0#32, constantI S_ 32 0#32, constantI S_ 32 0#32] : Fin 5 → (⟨S_, .i32⟩ : BufTy).Contents (Elt Ideal))) k (Shape.Idx.first hS)).toInt)
    = fun a => (((![n.val, 0, 0, 0, 0] : Fin 5 → ℕ) a : ℕ) : Int) :=
  funext fun a => by fin_cases a <;> first | exact toInt_ofNat_of_lt (by omega) | rfl

/-- The start of a slice at chunk `n`, of an array of three axes. -/
theorem start3 (n : Fin 32) (hS : 0 < S_.numel) : (fun k : Fin 3 => (((![fun _ => BitVec.ofNat 32 n.val, constantI S_ 32 0#32, constantI S_ 32 0#32] : Fin 3 → (⟨S_, .i32⟩ : BufTy).Contents (Elt Ideal))) k (Shape.Idx.first hS)).toInt)
    = fun a => (((![n.val, 0, 0] : Fin 3 → ℕ) a : ℕ) : Int) :=
  funext fun a => by fin_cases a <;> first | exact toInt_ofNat_of_lt (by omega) | rfl

theorem slice_rows (n : Fin 32) (x : Vec Ideal S32x16x4x64x128 .f32) (h) :
    Host.dynamicSlice S1x16x4x64x128 x (fun k => (((![fun _ => BitVec.ofNat 32 n.val, constantI S_ 32 0#32, constantI S_ 32 0#32, constantI S_ 32 0#32, constantI S_ 32 0#32] : Fin 5 → (⟨S_, .i32⟩ : BufTy).Contents (Elt Ideal))) k (Shape.Idx.first h_S_)).toInt) h
      = extractStridedSlice S1x16x4x64x128 ![n.val, 0, 0, 0, 0] x (fits_rows n) :=
  Host.dynamicSlice_eq_extractStridedSlice _ _ _ _ _ _ fun a => congrFun (start5 n _) a
theorem slice_scores (n : Fin 32) (x : Vec Ideal S32x16x4x64x64 .f32) (h) :
    Host.dynamicSlice S1x16x4x64x64 x (fun k => (((![fun _ => BitVec.ofNat 32 n.val, constantI S_ 32 0#32, constantI S_ 32 0#32, constantI S_ 32 0#32, constantI S_ 32 0#32] : Fin 5 → (⟨S_, .i32⟩ : BufTy).Contents (Elt Ideal))) k (Shape.Idx.first h_S_)).toInt) h
      = extractStridedSlice S1x16x4x64x64 ![n.val, 0, 0, 0, 0] x (fits_scores n) :=
  Host.dynamicSlice_eq_extractStridedSlice _ _ _ _ _ _ fun a => congrFun (start5 n _) a
theorem slice_decays (n : Fin 32) (x : Vec Ideal S32x16x4 .f32) (h) :
    Host.dynamicSlice S1x16x4 x (fun k => (((![fun _ => BitVec.ofNat 32 n.val, constantI S_ 32 0#32, constantI S_ 32 0#32] : Fin 3 → (⟨S_, .i32⟩ : BufTy).Contents (Elt Ideal))) k (Shape.Idx.first h_S_)).toInt) h
      = extractStridedSlice S1x16x4 ![n.val, 0, 0] x (fits_decays n) :=
  Host.dynamicSlice_eq_extractStridedSlice _ _ _ _ _ _ fun a => congrFun (start3 n _) a
theorem update_rows (n : Fin 32) (x : Vec Ideal S32x16x4x64x128 .f32) (y : Vec Ideal S1x16x4x64x128 .f32) (h) :
    Host.dynamicUpdateSlice x y (fun k => (((![fun _ => BitVec.ofNat 32 n.val, constantI S_ 32 0#32, constantI S_ 32 0#32, constantI S_ 32 0#32, constantI S_ 32 0#32] : Fin 5 → (⟨S_, .i32⟩ : BufTy).Contents (Elt Ideal))) k (Shape.Idx.first h_S_)).toInt) h
      = updateSlice x y ![n.val, 0, 0, 0, 0] (fits_rows n) :=
  WordCmp.dynamicUpdateSlice_eq_update _ _ _ _ _ _ fun a => congrFun (start5 n _) a

/-- The contents before trip `n`. -/
abbrev before (k : ℕ) : Valuation τ sig (Elt Ideal) := STEP^[k] (entry m c)

theorem before_succ (k : ℕ) : before m c (k + 1) = STEP (before m c k) := Function.iterate_succ_apply' _ _ _

theorem kept_u (k : ℕ) : before m c k (Proc.devRef .tc main_v21_0) = entry m c (Proc.devRef .tc main_v21_0) := by
  induction k with
  | zero => rfl
  | succ k ih => rw [before_succ, STEP_main_v21_0, ih]
theorem kept_w (k : ℕ) : before m c k (Proc.devRef .tc main_v21_1) = entry m c (Proc.devRef .tc main_v21_1) := by
  induction k with
  | zero => rfl
  | succ k ih => rw [before_succ, STEP_main_v21_1, ih]
theorem kept_qk (k : ℕ) : before m c k (Proc.devRef .tc main_v21_2) = entry m c (Proc.devRef .tc main_v21_2) := by
  induction k with
  | zero => rfl
  | succ k ih => rw [before_succ, STEP_main_v21_2, ih]
theorem kept_q (k : ℕ) : before m c k (Proc.devRef .tc main_v21_3) = entry m c (Proc.devRef .tc main_v21_3) := by
  induction k with
  | zero => rfl
  | succ k ih => rw [before_succ, STEP_main_v21_3, ih]
theorem kept_kt (k : ℕ) : before m c k (Proc.devRef .tc main_v21_4) = entry m c (Proc.devRef .tc main_v21_4) := by
  induction k with
  | zero => rfl
  | succ k ih => rw [before_succ, STEP_main_v21_4, ih]
theorem kept_eg (k : ℕ) : before m c k (Proc.devRef .tc main_v21_5) = entry m c (Proc.devRef .tc main_v21_5) := by
  induction k with
  | zero => rfl
  | succ k ih => rw [before_succ, STEP_main_v21_5, ih]

theorem counter (k : ℕ) : before m c k (Proc.devRef .tc main_v21_6) = fun _ => BitVec.ofNat 32 k := by
  induction k with
  | zero => exact ctr_entry m c
  | succ k ih =>
    rw [before_succ, STEP_main_v21_6, step_main_v21_6, ih]
    funext i
    show BitVec.ofNat 32 k + 1#32 = BitVec.ofNat 32 (k + 1)
    rw [BitVec.ofNat_add]

/-- What the rows of chunk `n` add, from the states before it. -/
theorem delta_row (n : Fin 32) (S : States)
    (hs : ∀ b h k v, (before m c n.val (Proc.devRef .tc main_v21_7) : Vec Ideal S16x4x128x128 .f32) (ix4 b h k v) = S b h k v)
    (b : Fin 16) (h : Fin 4) (r : Fin 64) (v : Fin 128) :
    (res_main_while0b_v50 (before m c n.val) : Vec Ideal S16x4x64x128 .f32) (ix4 b h r v) = deltaAll (arrays m c) S n b h r v := by
  unfold res_main_while0b_v50
  rw [counter, kept_u, kept_w]
  erw [slice_rows, slice_rows]
  clean_types
  pointwise [deltaAll, readAll]
  simp only [hs]
  exact congrArg₂ _ (entry_u m c n b h r v) (Finset.sum_congr rfl fun x _ => congrArg₂ _ (entry_w m c n b h r x) rfl)

/-- The states after chunk `n`, from the states before it. -/
theorem next_state (n : Fin 32) (S : States)
    (hs : ∀ b h k v, (before m c n.val (Proc.devRef .tc main_v21_7) : Vec Ideal S16x4x128x128 .f32) (ix4 b h k v) = S b h k v)
    (b : Fin 16) (h : Fin 4) (k v : Fin 128) :
    (before m c (n.val + 1) (Proc.devRef .tc main_v21_7) : Vec Ideal S16x4x128x128 .f32) (ix4 b h k v) = nextAll (arrays m c) S n b h k v := by
  rw [before_succ, STEP_main_v21_7, step_main_v21_7, counter, kept_eg, kept_kt]
  have hd := delta_row m c n S hs
  erw [slice_decays, slice_rows]
  simp only [id]
  clean_types
  pointwise [nextAll]
  simp only [hs, hd]
  exact congrArg₂ _ (congrArg₂ _ rfl (entry_eg m c n b h)) (Finset.sum_congr rfl fun x _ => congrArg₂ _ (entry_kt m c n b h x k) rfl)

/-- The output array after chunk `n`. -/
theorem next_out (n : Fin 32) (S : States)
    (hs : ∀ b h k v, (before m c n.val (Proc.devRef .tc main_v21_7) : Vec Ideal S16x4x128x128 .f32) (ix4 b h k v) = S b h k v)
    (a : Fin 32) (b : Fin 16) (h : Fin 4) (r : Fin 64) (v : Fin 128) :
    (before m c (n.val + 1) (Proc.devRef .tc main_v21_8) : Vec Ideal S32x16x4x64x128 .f32) (ix5 a b h r v)
      = if a = n then outAll (arrays m c) S n b h r v
        else (before m c n.val (Proc.devRef .tc main_v21_8) : Vec Ideal S32x16x4x64x128 .f32) (ix5 a b h r v) := by
  rw [before_succ, STEP_main_v21_8, step_main_v21_8, counter, kept_q, kept_qk]
  have hd := delta_row m c n S hs
  erw [slice_rows, slice_scores, update_rows]
  simp only [id]
  clean_types
  pointwise [outAll, readAll]
  simp only [hs, hd]
  by_cases e : a = n
  · subst e
    rw [dif_pos (by omega), if_pos rfl]
    exact congrArg₂ _ (Finset.sum_congr rfl fun x _ => congrArg₂ _ (entry_q m c a b h r x) rfl)
      (Finset.sum_congr rfl fun x _ => congrArg₂ _ (entry_qk m c a b h r x) rfl)
  · rw [dif_neg (fun e' => e (Fin.ext (by omega))), if_neg e]

/-- The states before chunk `k`. -/
theorem states (k : ℕ) (hk : k ≤ 32) (b : Fin 16) (h : Fin 4) (i v : Fin 128) :
    (before m c k (Proc.devRef .tc main_v21_7) : Vec Ideal S16x4x128x128 .f32) (ix4 b h i v) = stateAt (arrays m c) k b h i v := by
  induction k generalizing b h i v with
  | zero => exact entry_s m c b h i v
  | succ k ih =>
    refine (next_state m c ⟨k, hk⟩ (stateAt (arrays m c) k) (ih (by omega)) b h i v).trans ?_
    exact (congrFun (congrFun (congrFun (congrFun (stateAt_succ (arrays m c) ⟨k, hk⟩) b) h) i) v).symm

/-- The outputs of the chunks before chunk `k`. -/
theorem outs (k : ℕ) (hk : k ≤ 32) (n : Fin 32) (hn : n.val < k) (b : Fin 16) (h : Fin 4) (r : Fin 64) (v : Fin 128) :
    (before m c k (Proc.devRef .tc main_v21_8) : Vec Ideal S32x16x4x64x128 .f32) (ix5 n b h r v)
      = outAll (arrays m c) (stateAt (arrays m c) n.val) n b h r v := by
  induction k with
  | zero => omega
  | succ k ih =>
    refine (next_out m c ⟨k, hk⟩ (stateAt (arrays m c) k) (states m c k (by omega)) n b h r v).trans ?_
    by_cases e : n = ⟨k, hk⟩
    · rw [if_pos e]; subst e; rfl
    · rw [if_neg e]
      exact ih (by omega) (by have : n.val ≠ k := fun e' => e (Fin.ext e'); omega)

/-- The operations after the scan, at a row whose scan outputs are `G`. -/
theorem gated_row (V : Valuation τ sig (Elt Ideal)) (b : Fin 16) (n : Fin 32) (r : Fin 64) (h : Fin 4) (v : Fin 128)
    (G : Fin 128 → EReal) (gn : Vec Ideal S128 .f32) (z : Vec Ideal S33024x5120 .f32)
    (ho : ∀ w, (V (Proc.devRef .tc main_v21_8) : Vec Ideal S32x16x4x64x128 .f32) (ix5 n b h r w) = G w)
    (hg : V (Proc.devRef .tc main_arg7) = gn) (hz : V (Proc.devRef .tc main_arg5) = z) :
    (out_main_v42 V : Vec Ideal S16x2048x512 .bf16) (ix3 b ⟨64 * n.val + r.val, by omega⟩ ⟨128 * h.val + v.val, by omega⟩)
      = gatedOut G (gn (ix1 v)) (z (ix2 ⟨2048 * b.val + 64 * n.val + r.val, by omega⟩ ⟨3584 + 128 * h.val + v.val, by omega⟩)) v := by
  unfold out_main_v42
  rw [hg, hz]
  clean_types
  pointwise [gatedOut]
  simp only [ho, sub_eq_add_neg, zero_add]
  have e : (ix2 ⟨b.val * 2048 + (64 * n.val + r.val), by omega⟩ ⟨3584 + (h.val * 128 + v.val), by omega⟩ : S33024x5120.Idx)
      = ix2 ⟨2048 * b.val + 64 * n.val + r.val, by omega⟩ ⟨3584 + 128 * h.val + v.val, by omega⟩ := by
    congr 1 <;> exact Fin.ext (by simp only []; omega)
  rw [e]

/-- The reference's rows. -/
theorem rows_array (b : Fin 16) (n : Fin 32) (r : Fin 64) (h : Fin 4) (v : Fin 128) :
    (out_main_v42 (before m c 32) : Vec Ideal S16x2048x512 .bf16) (ix3 b ⟨64 * n.val + r.val, by omega⟩ ⟨128 * h.val + v.val, by omega⟩)
      = rowAt (arrays m c) n b h r v :=
  gated_row (before m c 32) b n r h v (fun w => outAll (arrays m c) (stateAt (arrays m c) n.val) n b h r w) (arrays m c).gn (arrays m c).z
    (outs m c 32 le_rfl n n.isLt b h r) (iter_main_arg7 m c 32) (iter_main_arg5 m c 32)

end Cert.Scan.Ref

end

end
-- ==== Proof.ScanClaim.lean ====
module

public import Idealize.ShloMosaic.Lib.Quiescent
public import proofs.«01_k».proof.Defs
public import proofs.«01_k».proof.Proof.Gen.Kernel.Frame
public import proofs.«01_k».proof.Proof.ScanKernel
public import proofs.«01_k».proof.Proof.ScanRef

/-!
# The recurrence: the kernel against the reference

The kernel's rows and last states (`ScanKernel`) and the reference's (`ScanRef`) are the same recurrence over the same arrays.
-/

@[expose] public section

noncomputable section

namespace Cert.Scan

open Idealize.ShloMosaic Idealize.SL.Sem

/-- The two programs' arrays are the same arrays. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.Scan.Ref.arrays m' c = Cert.Scan.arrays m c := by
  obtain ⟨h0, h1, h2, h3, h4, h5, h6, h7⟩ := h
  unfold Cert.Scan.Ref.arrays Cert.Scan.arrays
  simp only [Cert.Scan.Arrays.mk.injEq]
  exact ⟨h0, h1, h2, h3, h4, h5, h6, h7⟩

/-- Arrays of rows agree when they agree at every row of every chunk and every column of every head. -/
theorem rows_ext (f g : Vec Ideal Cert.KernelIdeal.S16x2048x512 .bf16)
    (h : ∀ (b : Fin 16) (n : Fin 32) (r : Fin 64) (q : Fin 4) (v : Fin 128),
      f (ix3 b ⟨64 * n.val + r.val, by omega⟩ ⟨128 * q.val + v.val, by omega⟩) = g (ix3 b ⟨64 * n.val + r.val, by omega⟩ ⟨128 * q.val + v.val, by omega⟩)) :
    f = g := by
  funext i
  idx_vars i
  have hs : i1 = ⟨64 * (i1.val / 64) + i1.val % 64, by omega⟩ := Fin.ext (by simp only []; omega)
  have hx : i2 = ⟨128 * (i2.val / 128) + i2.val % 128, by omega⟩ := Fin.ext (by simp only []; omega)
  rw [hs, hx]
  exact h i0 ⟨i1.val / 64, by omega⟩ ⟨i1.val % 64, by omega⟩ ⟨i2.val / 128, by omega⟩ ⟨i2.val % 128, by omega⟩

/-- Arrays of states agree when they agree at every index. -/
theorem states_ext (f g : Vec Ideal Cert.KernelIdeal.S16x4x128x128 .f32)
    (h : ∀ (b : Fin 16) (q : Fin 4) (k v : Fin 128), f (ix4 b q k v) = g (ix4 b q k v)) : f = g := by
  funext i
  idx_vars i
  exact h _ _ _ _

/-- The kernel's rows and last states are the reference's, and all the programs keep their arguments. -/
theorem scan_algebraic [hK : Cert.KernelIdeal.Facts] [hR : Cert.ReferenceIdeal.Facts] : Cert.algebraic_KernelIdeal_ReferenceIdeal :=
  fun m ρ m' ρ' _ hag => ⟨fun c => Cert.KernelIdeal.Value.G11 m c, fun c => Cert.KernelIdeal.Value.G12 m c,
    Cert.KernelIdeal.Value.run m ρ,
    (θ_run _ _ _).mono (fun _ h c => by
      have e := arrays_eq m m' c (hag c)
      obtain ⟨hr, hs, hrest⟩ := h c
      refine ⟨hr.trans (rows_ext _ _ fun b n r q v => ?_), hs.trans (states_ext _ _ fun b q k v => ?_), hrest⟩
      · exact ((Cert.Scan.Ref.rows_array m' c b n r q v).trans (by rw [e])).trans (Cert.Scan.rows_array m c b n r q v).symm
      · exact ((Cert.Scan.Ref.states m' c 32 le_rfl b q k v).trans (by rw [e])).trans (Cert.Scan.states_array m c b q k v).symm) (Cert.ReferenceIdeal.Value.run m' ρ')⟩

/-- The reference ends with its arguments unchanged and, having no semaphores, with every counter at zero. -/
theorem reference_frame [hR : Cert.ReferenceIdeal.Facts] : Cert.quiescent_ReferenceIdeal := fun m ρ _ =>
  (θ_run _ _ _).mono (fun _ h => ⟨fun c => (h c).2.2, sem_eq_zero_of_no_sems rfl _⟩) (Cert.ReferenceIdeal.Value.run m ρ)

end Cert.Scan

end

end
-- ==== Proof.ExpTables.lean ====
module

public import proofs.«01_k».proof.Proof.Gen.ExpertsIdeal.Launch
public import Idealize.ShloMosaic.Lib.Pipeline.ValueKit
public import Idealize.ShloMosaic.Lib.Affine
public import Idealize.ShloMosaic.Lib.Pipeline.TableIdle

/-!
# The schedule of the experts' call

The call runs 137 row tiles by two halves of the hidden width. Its tables name each tile's expert and the number of
tiles in use. Past the tiles in use the index maps stay where they were, so no block moves there.
-/

set_option maxRecDepth 16384

@[expose] public section

noncomputable section

namespace Cert.ExpertsIdeal.Sched

open Idealize.ShloMosaic Idealize.ShloMosaic.TcCoe Idealize.SL.Sem
open Cert.ExpertsIdeal Cert.ExpertsIdeal.Gen
open Facts₀

variable {F : FTy → Type} [FloatOps F]

/-- The table of each tile's expert. -/
abbrev expertsOf (pf : pre0.Contents (Elt F)) : S137.Idx → BitVec 32 := pf (0 : Fin 2)
/-- The number of tiles in use, as a word. -/
abbrev usedOf (pf : pre0.Contents (Elt F)) : BitVec 32 := (pf (1 : Fin 2) : S1.Idx → BitVec 32) (ix1 (0 : Fin 1))

/-- What the precondition says of the tables: every entry names one of eight experts, and between one tile and all
    of them are in use. -/
structure InRange (pf : pre0.Contents (Elt F)) : Prop where
  expert : ∀ x, (expertsOf pf x).toNat < 8
  pos : 1 ≤ (usedOf pf).toNat
  le : (usedOf pf).toNat ≤ 137

/-- The place of tile `k` in the table. -/
def tileIx (k : Fin 137) : S137.Idx := ix1 k

theorem one_place (x y : S1.Idx) : x = y := by
  funext a
  match a with
  | ⟨0, _⟩ => exact Subsingleton.elim (α := Fin 1) _ _
  | ⟨n + 1, hn⟩ => exact absurd hn (Nat.not_lt.2 (Nat.le_add_left 1 n))

theorem at_used (pf : pre0.Contents (Elt F)) (h : ∀ a, (![0] : Fin 1 → Nat) a + S1.size a ≤ S1.size a) (h1) :
    (pf.at 1 (Rect.unit (s := S1) ![0] S1.size h) h1 : BitVec 32) = usedOf pf := by
  refine congrArg (α := S1.Idx) (β := BitVec 32) (pf (1 : Fin 2)) ?_
  exact one_place _ _

theorem atD_used (pf : pre0.Contents (Elt F)) : (pf.atD 1 ![0] : BitVec 32) = usedOf pf := by
  unfold Pipeline.Prefetch.Contents.atD
  rw [dif_pos (by decide)]
  refine congrArg (α := S1.Idx) (β := BitVec 32) (pf (1 : Fin 2)) ?_
  exact one_place _ _

theorem off_toNat (i : grid0.Coords) : k0_off1 i = ![(i 0).val] := by
  have h : (i 0).val < 137 := (i 0).isLt
  unfold k0_off1
  simp only [Scalar.indexCast, BitVec.toNat_ofNat]
  rw [Nat.mod_eq_of_lt (by omega)]

theorem at_expert (pf : pre0.Contents (Elt F)) (i : grid0.Coords) (h : ∀ a, k0_off1 i a + S1.size a ≤ S137.size a) (h1) :
    (pf.at 0 (Rect.unit (s := S137) (k0_off1 i) S1.size h) h1 : BitVec 32) = expertsOf pf (tileIx ⟨(i 0).val, (i 0).isLt⟩) := by
  refine congrArg (α := S137.Idx) (β := BitVec 32) (pf (0 : Fin 2)) ?_
  funext a
  match a with
  | ⟨0, _⟩ =>
    apply Fin.ext
    show k0_off1 i 0 + 1 * 0 = (i 0).val
    rw [off_toNat]; rfl
  | ⟨n + 1, hn⟩ => exact absurd hn (Nat.not_lt.2 (Nat.le_add_left 1 n))

/-- Row tile of a point, and which half of the hidden width it does. -/
theorem coord0 (t : Fin grid0.N) : (grid0.coords t 0).val = t.val / 2 := by
  revert t; decide
theorem coord1 (t : Fin grid0.N) : (grid0.coords t 1).val = t.val % 2 := by
  revert t; decide

theorem cond1_iff (i : grid0.Coords) (n : BitVec 32) (hn : n.toNat ≤ 137) : k0_cond1 i n = 1#1 ↔ (i 0).val < n.toNat := by
  have h0 : (i 0).val < 137 := (i 0).isLt
  unfold k0_cond1
  simp only [Scalar.cmpi, Scalar.extui, IntOp.cmpi]
  have e : (BitVec.ofNat 32 (i 0).val).slt n = decide ((i 0).val < n.toNat) := by
    rw [BitVec.slt_eq_decide, BitVec.toInt_eq_toNat_of_lt (by simp; omega), BitVec.toInt_eq_toNat_of_lt (by omega)]
    simp; omega
  rw [e]
  by_cases h : (i 0).val < n.toNat <;> simp [h]

theorem cond4_iff (i : grid0.Coords) : k0_cond4 i = 1#1 ↔ (i 1).val = 1 := by
  have h0 : (i 1).val < 2 := (i 1).isLt
  unfold k0_cond4
  generalize (i 1).val = n at *
  interval_cases n <;> decide

/-- Whether a point does the first half, and whether it does a later one, as the body asks. -/
theorem first_iff (i : grid0.Coords) : Scalar.cmpi .ne (Scalar.extui (Scalar.cmpi .eq (BitVec.ofNat 32 (i 1).val) 0#32)) 0#32 = 1#1 ↔ (i 1).val = 0 := by
  have h0 : (i 1).val < 2 := (i 1).isLt
  generalize (i 1).val = n at *
  interval_cases n <;> decide
theorem later_iff (i : grid0.Coords) : Scalar.cmpi .ne (Scalar.extui (Scalar.cmpi .sgt (BitVec.ofNat 32 (i 1).val) 0#32)) 0#32 = 1#1 ↔ (i 1).val = 1 := by
  have h0 : (i 1).val < 2 := (i 1).isLt
  generalize (i 1).val = n at *
  interval_cases n <;> decide

/-- The row tile named by a coordinate and the number of tiles in use, as words. -/
def rowWord (a n : BitVec 32) : BitVec 32 := Scalar.minsi a (Scalar.subi n 1#32)
/-- The half named by the two coordinates and the number of tiles in use, as words. -/
def halfWord (a b n : BitVec 32) : BitVec 32 := Scalar.select (Scalar.cmpi .slt a n) b 1#32

theorem slt_ofNat (a : Nat) (n : BitVec 32) (ha : a < 137) (hn : n.toNat ≤ 137) : (BitVec.ofNat 32 a).slt n = decide (a < n.toNat) := by
  rw [BitVec.slt_eq_decide, BitVec.toInt_eq_toNat_of_lt (by simp; omega), BitVec.toInt_eq_toNat_of_lt (by omega)]
  simp; omega

theorem rowWord_toNat (a : Nat) (n : BitVec 32) (ha : a < 137) (h1 : 1 ≤ n.toNat) (h2 : n.toNat ≤ 137) :
    (rowWord (BitVec.ofNat 32 a) n).toNat = min a (n.toNat - 1) := by
  have this : (n - 1#32).toNat = n.toNat - 1 := by rw [BitVec.toNat_sub_of_le (by simp [BitVec.le_def]; omega)]; rfl
  simp only [rowWord, Scalar.minsi, IntOp.minsi, Scalar.subi, IntOp.subi, slt_ofNat a (n - 1#32) ha (by omega), this]
  by_cases hh : a < n.toNat - 1
  · simp [hh, Nat.min_eq_left (Nat.le_of_lt hh)]; omega
  · simp [hh, this, Nat.min_eq_right (Nat.le_of_not_lt hh)]

theorem halfWord_toNat (a b : Nat) (n : BitVec 32) (ha : a < 137) (hb : b < 2) (h2 : n.toNat ≤ 137) :
    (halfWord (BitVec.ofNat 32 a) (BitVec.ofNat 32 b) n).toNat = if a < n.toNat then b else 1 := by
  simp only [halfWord, Scalar.select, Scalar.cmpi, IntOp.cmpi, slt_ofNat a n ha h2]
  by_cases hh : a < n.toNat
  · simp [hh]; omega
  · simp [hh]

section
variable (pf : pre0.Contents (Elt F)) (hp : InRange pf)
include hp

/-- The row tile the index maps name at a point. -/
theorem rows_eq (i : grid0.Coords) (h) (h') : cc0_transform_4 h h' pf i = ![min (i 0).val ((usedOf pf).toNat - 1), 0] := by
  have e : cc0_transform_4 h h' pf i = ![(rowWord (BitVec.ofNat 32 (i 0).val) (usedOf pf)).toNat, 0] :=
    congrArg (fun w : BitVec 32 => (![(rowWord (BitVec.ofNat 32 (i 0).val) w).toNat, 0] : Fin 2 → Nat)) (at_used pf h h')
  rw [e, rowWord_toNat _ _ (i 0).isLt hp.pos hp.le]

theorem rows0_eq (i : grid0.Coords) (h) (h') : cc0_transform_0 h h' pf i = ![min (i 0).val ((usedOf pf).toNat - 1), 0] := rows_eq pf hp i h h'

omit hp in
/-- The half of the hidden width the index maps name at a point. -/
def half (pf : pre0.Contents (Elt F)) (i : grid0.Coords) : Nat := if (i 0).val < (usedOf pf).toNat then (i 1).val else 1

theorem up_eq (i : grid0.Coords) (h h' h'') : cc0_transform_1 h h' h'' pf i
    = ![(expertsOf pf (tileIx ⟨(i 0).val, (i 0).isLt⟩)).toNat, 0, half pf i] := by
  have e : cc0_transform_1 h h' h'' pf i = ![(expertsOf pf (tileIx ⟨(i 0).val, (i 0).isLt⟩)).toNat, 0,
      (halfWord (BitVec.ofNat 32 (i 0).val) (BitVec.ofNat 32 (i 1).val) (usedOf pf)).toNat] :=
    congrArg₂ (fun v w : BitVec 32 => (![v.toNat, 0, (halfWord (BitVec.ofNat 32 (i 0).val) (BitVec.ofNat 32 (i 1).val) w).toNat] : Fin 3 → Nat))
      (at_expert pf i (h i) h') (at_used pf h'' h')
  rw [e, halfWord_toNat _ _ _ (i 0).isLt (i 1).isLt hp.le]
  rfl

theorem gate_eq (i : grid0.Coords) (h h' h'') : cc0_transform_2 h h' h'' pf i
    = ![(expertsOf pf (tileIx ⟨(i 0).val, (i 0).isLt⟩)).toNat, 0, half pf i] := up_eq pf hp i h h' h''

theorem down_eq (i : grid0.Coords) (h h' h'') : cc0_transform_3 h h' h'' pf i
    = ![(expertsOf pf (tileIx ⟨(i 0).val, (i 0).isLt⟩)).toNat, half pf i, 0] := by
  have e := up_eq pf hp i h h' h''
  have : cc0_transform_3 h h' h'' pf i = ![cc0_transform_1 h h' h'' pf i 0, cc0_transform_1 h h' h'' pf i 2, 0] := rfl
  rw [this, e]; rfl

theorem half_lt (i : grid0.Coords) : half pf i < 2 := by
  have h : (i 1).val < 2 := (i 1).isLt
  unfold half; split <;> omega

/-- Every block the tables name lies in its array. -/
theorem ok : ok0 pf := by
  have hu := hp.pos
  have hl := hp.le
  refine ⟨fun i => ?_, fun i => ?_, fun i => ?_, fun i => ?_, fun i => ?_⟩
  · have h0 : (i 0).val < 137 := (i 0).isLt
    refine ⟨fun a => ?_, .inr ?_⟩
    · rw [rows0_eq pf hp]
      fin_cases a
      · show (min (i 0).val ((usedOf pf).toNat - 1) + 1) * 512 ≤ 70144; omega
      · show (0 + 1) * 1024 ≤ 1024; omega
    · exact Affine.block_words_dvd (of_decide_eq_true rfl) (by decide)
  · have h0 := half_lt pf hp i
    have h1 := hp.expert (tileIx ⟨(i 0).val, (i 0).isLt⟩)
    refine ⟨fun a => ?_, .inr ?_⟩
    · rw [up_eq pf hp]
      fin_cases a
      · show ((expertsOf pf (tileIx ⟨(i 0).val, (i 0).isLt⟩)).toNat + 1) * 1 ≤ 8; omega
      · show (0 + 1) * 1024 ≤ 1024; omega
      · show (half pf i + 1) * 1792 ≤ 3584; omega
    · exact Affine.block_words_dvd (of_decide_eq_true rfl) (by decide)
  · have h0 := half_lt pf hp i
    have h1 := hp.expert (tileIx ⟨(i 0).val, (i 0).isLt⟩)
    refine ⟨fun a => ?_, .inr ?_⟩
    · rw [gate_eq pf hp]
      fin_cases a
      · show ((expertsOf pf (tileIx ⟨(i 0).val, (i 0).isLt⟩)).toNat + 1) * 1 ≤ 8; omega
      · show (0 + 1) * 1024 ≤ 1024; omega
      · show (half pf i + 1) * 1792 ≤ 3584; omega
    · exact Affine.block_words_dvd (of_decide_eq_true rfl) (by decide)
  · have h0 := half_lt pf hp i
    have h1 := hp.expert (tileIx ⟨(i 0).val, (i 0).isLt⟩)
    refine ⟨fun a => ?_, .inr ?_⟩
    · rw [down_eq pf hp]
      fin_cases a
      · show ((expertsOf pf (tileIx ⟨(i 0).val, (i 0).isLt⟩)).toNat + 1) * 1 ≤ 8; omega
      · show (half pf i + 1) * 1792 ≤ 3584; omega
      · show (0 + 1) * 1024 ≤ 1024; omega
    · exact Affine.block_words_dvd (of_decide_eq_true rfl) (by decide)
  · have h0 : (i 0).val < 137 := (i 0).isLt
    refine ⟨fun a => ?_, .inl rfl⟩
    rw [rows_eq pf hp]
    fin_cases a
    · show (min (i 0).val ((usedOf pf).toNat - 1) + 1) * 512 ≤ 70144; omega
    · show (0 + 1) * 1024 ≤ 1024; omega

/-- The tables as the region admits them. -/
abbrev adm : (pcfg0 (F := F)).Adm := ⟨pf, ok pf hp⟩

/-- The output block of a point. -/
theorem out_index (t : Fin grid0.N) : ((cfg0 (adm pf hp)).win (4 : Fin 5)).index t = ![min (t.val / 2) ((usedOf pf).toNat - 1), 0] := by
  rw [← coord0]
  exact rows_eq pf hp (grid0.coords t) _ _

theorem flush_iff (t : Fin grid0.N) : ((cfg0 (adm pf hp)).win (4 : Fin 5)).flush t = true ↔
    t.val = 273 ∨ (t.val % 2 = 1 ∧ t.val / 2 + 1 < (usedOf pf).toNat) := by
  have hN : grid0.N = 274 := N_0
  have ht : t.val < 274 := hN ▸ t.isLt
  have hu := hp.pos
  have hl := hp.le
  have e : ((cfg0 (adm pf hp)).win (4 : Fin 5)).flush t
      = (true && (t.val + 1 == grid0.N || decide (∃ h : t.val + 1 < grid0.N,
          ((cfg0 (adm pf hp)).win (4 : Fin 5)).index ⟨t.val + 1, h⟩ ≠ ((cfg0 (adm pf hp)).win (4 : Fin 5)).index t))) := rfl
  rw [e]
  simp only [Bool.true_and, Bool.or_eq_true, decide_eq_true_eq, beq_iff_eq]
  constructor
  · rintro (h | ⟨h, hne⟩)
    · left; omega
    · right
      by_contra hc
      apply hne
      have : min ((t.val + 1) / 2) ((usedOf pf).toNat - 1) = min (t.val / 2) ((usedOf pf).toNat - 1) := by omega
      exact (out_index pf hp _).trans ((congrArg (fun k : Nat => (![k, 0] : Fin 2 → Nat)) this).trans (out_index pf hp t).symm)
  · rintro (h | ⟨h1, h2⟩)
    · left; omega
    · right
      refine ⟨by omega, fun hc => ?_⟩
      have e2 := congrFun ((out_index pf hp _).symm.trans (hc.trans (out_index pf hp t))) (0 : Fin 2)
      have e3 : min ((t.val + 1) / 2) ((usedOf pf).toNat - 1) = min (t.val / 2) ((usedOf pf).toNat - 1) := e2
      omega

theorem idle_iff (t : Fin grid0.N) : (cfg0 (adm pf hp)).idle (4 : Fin 5) ((cfg0 (adm pf hp)).grid.coords t) = false ↔
    (t.val % 2 = 1 ∧ t.val / 2 < (usedOf pf).toNat) := by
  have e : (cfg0 (adm pf hp)).idle (4 : Fin 5) ((cfg0 (adm pf hp)).grid.coords t)
      = !(k0_cond1 (grid0.coords t) (pf.atD 1 ![0]) == 1#1 && k0_cond4 (grid0.coords t) == 1#1) := rfl
  rw [e, atD_used]
  have h1 := cond1_iff (grid0.coords t) (usedOf pf) hp.le
  have h2 := cond4_iff (grid0.coords t)
  rw [coord0] at h1
  rw [coord1] at h2
  simp only [Bool.not_eq_false', Bool.and_eq_true, beq_iff_eq, h1, h2]
  exact and_comm

/-- From the second point of the last tile in use on, the output's buffer holds something stored; and at every first
    point of a tile in use it holds nothing stored since its last write-back. -/
theorem fresh_eq (n : Nat) (hn : n ≤ 274) : (cfg0 (adm pf hp)).fresh (4 : Fin 5) n = decide (n < 2 * (usedOf pf).toNat ∨ n = 274) := by
  have hu := hp.pos
  have hl := hp.le
  induction n with
  | zero =>
    rw [Pipeline.Cfg.fresh_zero]; symm; simp; omega
  | succ n ih =>
    have hN : grid0.N = 274 := N_0
    have hlt : n < grid0.N := by omega
    rw [Pipeline.Cfg.fresh_succ _ _ n hlt, ih (by omega)]
    have hf : ((cfg0 (adm pf hp)).win (4 : Fin 5)).flush ⟨n, hlt⟩ = true ↔ n = 273 ∨ (n % 2 = 1 ∧ n / 2 + 1 < (usedOf pf).toNat) :=
      flush_iff pf hp ⟨n, hlt⟩
    have hi : (cfg0 (adm pf hp)).idle (4 : Fin 5) ((cfg0 (adm pf hp)).grid.coords ⟨n, hlt⟩) = false ↔
      (n % 2 = 1 ∧ n / 2 < (usedOf pf).toNat) := idle_iff pf hp ⟨n, hlt⟩
    generalize ((cfg0 (adm pf hp)).win (4 : Fin 5)).flush ⟨n, hlt⟩ = fl at hf
    generalize (cfg0 (adm pf hp)).idle (4 : Fin 5) ((cfg0 (adm pf hp)).grid.coords ⟨n, hlt⟩) = il at hi
    cases fl <;> cases il
    all_goals
      simp only [Bool.false_eq_true, false_iff, true_iff, reduceCtorEq, not_or, not_and, not_lt] at hf hi
      simp only [Bool.or_false, Bool.or_true, Bool.false_and, Bool.true_and, Bool.false_or, Bool.true_or, Bool.or_self]
      first
        | (symm; rw [decide_eq_false_iff_not]; omega)
        | (symm; rw [decide_eq_true_eq]; omega)
        | (rw [decide_eq_decide]; omega)

end
end Cert.ExpertsIdeal.Sched

end

end
-- ==== Proof.ExpBody.lean ====
module

public import proofs.«01_k».proof.Proof.ExpTables
public import proofs.«01_k».proof.Proof.Gen.ExpertsIdeal.Skeleton
public import Idealize.ShloMosaic.Lib.Pipeline.FrameBody
public import Idealize.ShloMosaic.Lib.Writes
public import Idealize.ShloMosaic.Lib.Ring
public import Idealize.ShloMosaic.Lib.Exec
public import Idealize.ShloMosaic.Lib.Tactic

/-!
# One point of the experts' call

The body has three cases. The first half of a tile leaves its product in the scratch buffer, the second half adds its own and
stores the sum, and past the tiles in use nothing is done.
-/

set_option maxRecDepth 16384
set_option Elab.async false

@[expose] public section

noncomputable section

namespace Cert.ExpertsIdeal.Sched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExpertsIdeal Cert.ExpertsIdeal.Gen

variable {F : FTy → Type} [FloatOps F]

local notation "𝕄" => MT nD τ sig Unit (Elt F) ℕ (UR sig nD τ) ℕ

/-- The two tables and the scratch buffer, as the body is handed them. -/
abbrev tileTab : Memref sig .tc .smem S137 .i32 := Memref.whole main_arg1
abbrev usedTab : Memref sig .tc .smem S1 .i32 := Memref.whole main_arg2
abbrev accBuf : Memref sig .tc .vmem S512x1024 .f32 := Memref.whole cc0_scratch0

/-- Reading the whole of a buffer one store through the whole shape wrote gives what was stored. -/
theorem read_stored {sg : RefSig} {κ : Kind} {sp : Space} {S : Shape} {e : EltTy} (v : View sg κ sp S e) (f : v.ty.Contents (Elt F))
    (o : Fin S.rank → Nat) (inb : ∀ a, o a + S.size a ≤ S.size a) (h : ∀ a, o a = 0) (d : S.Idx → Elt F e) (L : List (View.Piece (Elt F) S e)) :
    v.read (Elt F) (v.writes (Elt F) f ((⟨Rect.unit o S.size inb, d⟩ : View.Piece (Elt F) S e) :: L)) = d := by
  funext y
  exact View.read_writes_cons_hit_of_coords v f (Rect.unit o S.size inb) d L y y fun a => by
    show (y a).val = o a + 1 * (y a).val
    rw [h a]; omega

/-- Loading the whole of a buffer that holds `d` gives `d`. -/
theorem load_held {sg : RefSig} {κ : Kind} {sp : Space} {S : Shape} {e : EltTy} {a : Memref sg κ sp S e} (ha : a.IsWhole)
    (o : Fin S.rank → Nat) (inb : ∀ a, o a + S.size a ≤ S.size a) (h : ∀ a, o a = 0) (d : S.Idx → Elt F e) :
    View.readAt (Elt F) a.view (Rect.unit o S.size inb).toLoadRect (ha.unread d) = d := by
  rw [View.readAt_eq_ld, ha.read_unread]
  exact View.ld_unit_lit inb d h

section
variable (c : Dev nD) (i : grid0.Coords) (a4 : Memref sig .tc .vmem S512x1024 .bf16) (h4 : a4.IsWhole)
  (a5 : Memref sig .tc .vmem S1x1024x1792 .bf16) (h5 : a5.IsWhole) (a6 : Memref sig .tc .vmem S1x1024x1792 .bf16) (h6 : a6.IsWhole)
  (a7 : Memref sig .tc .vmem S1x1792x1024 .bf16) (h7 : a7.IsWhole) (a8 : Memref sig .tc .vmem S512x1024 .f32) (h8 : a8.IsWhole)
  (T0 : Buf (Elt F) ((c : Thread nD τ).loc main_arg1)) (T1 : Buf (Elt F) ((c : Thread nD τ).loc main_arg2))
  (x : Vec F S512x1024 .bf16) (u g : Vec F S1x1024x1792 .bf16) (w : Vec F S1x1792x1024 .bf16)

/-- The number of tiles in use, as the body reads it. -/
abbrev readUsed (c : Dev nD) (T1 : Buf (Elt F) ((c : Thread nD τ).loc main_arg2)) : BitVec 32 :=
  View.readAt (Elt F) usedTab.view (Rect.unit (s := S1) ![0] S1.size inb_S1_S1_0).toLoadRect T1 (Shape.Idx.first (numel1_S1.symm ▸ Nat.one_pos))

/-- The body at a point. -/
abbrev body : Prog (TpuEff nD τ sig (Elt F) Λ₀ .tc) PUnit :=
  cc0_moe_experts i tileTab (Memref.isWhole_whole _) usedTab (Memref.isWhole_whole _) a4 h4 a5 h5 a6 h6 a7 h7 a8 h8 accBuf (Memref.isWhole_whole _)

set_option backward.proofsInPublic true in
set_option maxHeartbeats 4000000 in
/-- The first half of a tile in use. -/
theorem first_half (y : Vec F S512x1024 .f32) (K : PUnit → sProp 𝕄)
    (h1 : k0_cond1 i (readUsed c T1) = 1#1)
    (h2 : Scalar.cmpi .ne (Scalar.extui (Scalar.cmpi .eq (BitVec.ofNat 32 (i 1).val) 0#32)) 0#32 = 1#1)
    (h3 : ¬(Scalar.cmpi .ne (Scalar.extui (Scalar.cmpi .sgt (BitVec.ofNat 32 (i 1).val) 0#32)) 0#32 = 1#1))
    (hc4 : ¬(k0_cond4 i = 1#1)) :
    iprop(owns (c : Thread nD τ) a4 fullShare x ∗ owns (c : Thread nD τ) a5 fullShare u ∗ owns (c : Thread nD τ) a6 fullShare g
        ∗ owns (c : Thread nD τ) a7 fullShare w
        ∗ (tileTab.view.loc (c : Thread nD τ) ↦{fullShare.right} T0) ∗ (usedTab.view.loc (c : Thread nD τ) ↦{fullShare.right} T1)
        ∗ owns (c : Thread nD τ) a8 fullShare y ∗ (∃ d, owns (c : Thread nD τ) accBuf fullShare d)
        ∗ (iprop(owns (c : Thread nD τ) a4 fullShare x ∗ owns (c : Thread nD τ) a5 fullShare u ∗ owns (c : Thread nD τ) a6 fullShare g
            ∗ owns (c : Thread nD τ) a7 fullShare w
            ∗ (tileTab.view.loc (c : Thread nD τ) ↦{fullShare.right} T0) ∗ (usedTab.view.loc (c : Thread nD τ) ↦{fullShare.right} T1)
            ∗ owns (c : Thread nD τ) a8 fullShare y ∗ owns (c : Thread nD τ) accBuf fullShare (k0_pay2 x u g w)) -∗ K ⟨⟩))
      ⊢ wp frame (wpE (defs₀ (F := F)) Variants.none c none) Set.univ (body i a4 h4 a5 h5 a6 h6 a7 h7 a8 h8) K := by
  unfold owns body
  rw [cc0_moe_experts_eq_skeleton]; unfold cc0_moe_experts_skel
  iintro ⟨⟨%f4, %hf4, H4⟩, ⟨%f5, %hf5, H5⟩, ⟨%f6, %hf6, H6⟩, ⟨%f7, %hf7, H7⟩, HT0, HT1, ⟨%f8, %hf8, H8⟩, ⟨%d, %f9, %hf9, H9⟩, Hk⟩
  obtain rfl := h4.eq_unread hf4
  obtain rfl := h5.eq_unread hf5
  obtain rfl := h6.eq_unread hf6
  obtain rfl := h7.eq_unread hf7
  obtain rfl := h8.eq_unread hf8
  have hS0 : accBuf.IsWhole := Memref.isWhole_whole _
  have hT0 : tileTab.IsWhole := Memref.isWhole_whole _
  have hT1 : usedTab.IsWhole := Memref.isWhole_whole _
  sl_exec! (disch := first | (guard_target = k0_cond1 _ _ = _; exact h1) | (guard_target = Scalar.cmpi = _; exact h2) | (guard_target = ¬(Scalar.cmpi = _); exact h3) | (guard_target = ¬(k0_cond4 _ = _); exact hc4))
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [HT0]; · iexact HT0
  isplitl [HT1]; · iexact HT1
  isplitl [H8]
  · iexists _; isplitr; · ipureintro; exact h8.read_unread _
    iexact H8
  iexists _; isplitr; swap
  · iexact H9
  · ipureintro
    refine (read_stored _ _ _ _ (by decide) _ _).trans ?_
    rw [load_held h4 _ _ (by decide), load_held h5 _ _ (by decide), load_held h6 _ _ (by decide), load_held h7 _ _ (by decide)]

set_option backward.proofsInPublic true in
set_option maxHeartbeats 4000000 in
/-- The second half of a tile in use. -/
theorem second_half (z : Vec F S512x1024 .f32) (K : PUnit → sProp 𝕄)
    (h1 : k0_cond1 i (readUsed c T1) = 1#1)
    (h2 : ¬(Scalar.cmpi .ne (Scalar.extui (Scalar.cmpi .eq (BitVec.ofNat 32 (i 1).val) 0#32)) 0#32 = 1#1))
    (h3 : Scalar.cmpi .ne (Scalar.extui (Scalar.cmpi .sgt (BitVec.ofNat 32 (i 1).val) 0#32)) 0#32 = 1#1)
    (hc4 : k0_cond4 i = 1#1) :
    iprop(owns (c : Thread nD τ) a4 fullShare x ∗ owns (c : Thread nD τ) a5 fullShare u ∗ owns (c : Thread nD τ) a6 fullShare g
        ∗ owns (c : Thread nD τ) a7 fullShare w
        ∗ (tileTab.view.loc (c : Thread nD τ) ↦{fullShare.right} T0) ∗ (usedTab.view.loc (c : Thread nD τ) ↦{fullShare.right} T1)
        ∗ (∃ d, owns (c : Thread nD τ) a8 fullShare d) ∗ owns (c : Thread nD τ) accBuf fullShare z
        ∗ (iprop(owns (c : Thread nD τ) a4 fullShare x ∗ owns (c : Thread nD τ) a5 fullShare u ∗ owns (c : Thread nD τ) a6 fullShare g
            ∗ owns (c : Thread nD τ) a7 fullShare w
            ∗ (tileTab.view.loc (c : Thread nD τ) ↦{fullShare.right} T0) ∗ (usedTab.view.loc (c : Thread nD τ) ↦{fullShare.right} T1)
            ∗ owns (c : Thread nD τ) a8 fullShare (k0_pay3 x u g w z) ∗ owns (c : Thread nD τ) accBuf fullShare (k0_pay3 x u g w z)) -∗ K ⟨⟩))
      ⊢ wp frame (wpE (defs₀ (F := F)) Variants.none c none) Set.univ (body i a4 h4 a5 h5 a6 h6 a7 h7 a8 h8) K := by
  unfold owns body
  rw [cc0_moe_experts_eq_skeleton]; unfold cc0_moe_experts_skel
  iintro ⟨⟨%f4, %hf4, H4⟩, ⟨%f5, %hf5, H5⟩, ⟨%f6, %hf6, H6⟩, ⟨%f7, %hf7, H7⟩, HT0, HT1, ⟨%d, %f8, %hf8, H8⟩, ⟨%f9, %hf9, H9⟩, Hk⟩
  obtain rfl := h4.eq_unread hf4
  obtain rfl := h5.eq_unread hf5
  obtain rfl := h6.eq_unread hf6
  obtain rfl := h7.eq_unread hf7
  have hS0 : accBuf.IsWhole := Memref.isWhole_whole _
  obtain rfl := hS0.eq_unread hf9
  have hT0 : tileTab.IsWhole := Memref.isWhole_whole _
  have hT1 : usedTab.IsWhole := Memref.isWhole_whole _
  sl_exec! (disch := first | (guard_target = k0_cond1 _ _ = _; exact h1) | (guard_target = ¬(Scalar.cmpi = _); exact h2) | (guard_target = Scalar.cmpi = _; exact h3) | (guard_target = k0_cond4 _ = _; exact hc4))
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [HT0]; · iexact HT0
  isplitl [HT1]; · iexact HT1
  isplitl [H8]
  · iexists _; isplitr; swap
    · iexact H8
    · ipureintro
      refine (read_stored _ _ _ _ (by decide) _ _).trans ?_
      unfold second_half.sl.v34 second_half.sl.H9_1
      refine (View.readCov_unit_lit _ _ _ (by decide)).trans ?_
      rw [load_held h4 _ _ (by decide), load_held h5 _ _ (by decide), load_held h6 _ _ (by decide), load_held h7 _ _ (by decide), load_held hS0 _ _ (by decide)]
  iexists _; isplitr; swap
  · iexact H9
  · ipureintro
    unfold second_half.sl.H9_1
    refine (read_stored _ _ _ _ (by decide) _ _).trans ?_
    rw [load_held h4 _ _ (by decide), load_held h5 _ _ (by decide), load_held h6 _ _ (by decide), load_held h7 _ _ (by decide), load_held hS0 _ _ (by decide)]

set_option backward.proofsInPublic true in
set_option maxHeartbeats 4000000 in
/-- A point past the tiles in use: nothing is done. -/
theorem past_used (K : PUnit → sProp 𝕄) (h1 : ¬(k0_cond1 i (readUsed c T1) = 1#1)) :
    iprop((usedTab.view.loc (c : Thread nD τ) ↦{fullShare.right} T1)
        ∗ (iprop(usedTab.view.loc (c : Thread nD τ) ↦{fullShare.right} T1) -∗ K ⟨⟩))
      ⊢ wp frame (wpE (defs₀ (F := F)) Variants.none c none) Set.univ (body i a4 h4 a5 h5 a6 h6 a7 h7 a8 h8) K := by
  unfold body
  rw [cc0_moe_experts_eq_skeleton]; unfold cc0_moe_experts_skel
  iintro ⟨HT1, Hk⟩
  have hT1 : usedTab.IsWhole := Memref.isWhole_whole _
  sl_exec! (disch := first | (guard_target = ¬(k0_cond1 _ _ = _); exact h1))
  sl_step
  iapply Hk
  iexact HT1

end
end Cert.ExpertsIdeal.Sched

end

end
-- ==== Proof.ExpRun.lean ====
module

public import proofs.«01_k».proof.Proof.ExpBody
public import Idealize.ShloMosaic.Lib.Pipeline.Quiescent
public import Idealize.ShloMosaic.Lib.Pipeline.Frame
public import Idealize.ShloMosaic.Lib.Pipeline.Kit
public import Idealize.ShloMosaic.Lib.Claim
public import Idealize.ShloMosaic.Init

/-!
# The run of the experts' call

For tables in range, every run ends with each row tile in use at the sum of its two halves' products. The two halves of a
tile are the points `2 k` and `2 k + 1`; the scratch buffer carries the first half's product to the second.
-/

set_option maxRecDepth 16384
set_option Elab.async false

@[expose] public section

noncomputable section

namespace Cert.ExpertsIdeal.Sched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.ExpertsIdeal Cert.ExpertsIdeal.Gen

variable {F : FTy → Type} [FloatOps F]

local notation "𝕄" => MT nD τ sig Unit (Elt F) ℕ (UR sig nD τ) ℕ

/-! ## What the region finds -/

section Entry
variable (m : (ℓ : Loc nD τ sig) → Buf (Elt F) ℓ)

/-- The buffers when the region is entered: after the four conversions. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The conversions write `main_v0` to `main_v3` only. -/
theorem V_keeps (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2, StableHlo.devRef_ne_of_ne h3⟩))

end Entry

/-! ## The data of the run -/

section Run
variable (pf : pre0.Contents (Elt F)) (hp : InRange pf)
variable (m : (ℓ : Loc nD τ sig) → Buf (Elt F) ℓ) (ρ : Dev nD → PrngReg)

abbrev cfgA : Pipeline.Cfg sig Λ₀ := cfg0 (F := F) (adm pf hp)
abbrev crd (t : Fin (cfgA pf hp).N) : (cfgA pf hp).grid.Coords := (cfgA pf hp).grid.coords t

abbrev ms0 (t : Fin (cfgA pf hp).N) : Memref sig .tc .vmem S512x1024 .bf16 := spec0_0.stage ((cfgA pf hp).slots t (0 : Fin 5))
abbrev hs0 (t : Fin (cfgA pf hp).N) : (ms0 pf hp t).IsWhole := hstage0_0 (((cfgA pf hp).slots t (0 : Fin 5)).cast nbuf0_0)
abbrev ms1 (t : Fin (cfgA pf hp).N) : Memref sig .tc .vmem S1x1024x1792 .bf16 := spec0_1.stage ((cfgA pf hp).slots t (1 : Fin 5))
abbrev hs1 (t : Fin (cfgA pf hp).N) : (ms1 pf hp t).IsWhole := hstage0_1 (((cfgA pf hp).slots t (1 : Fin 5)).cast nbuf0_1)
abbrev ms2 (t : Fin (cfgA pf hp).N) : Memref sig .tc .vmem S1x1024x1792 .bf16 := spec0_2.stage ((cfgA pf hp).slots t (2 : Fin 5))
abbrev hs2 (t : Fin (cfgA pf hp).N) : (ms2 pf hp t).IsWhole := hstage0_2 (((cfgA pf hp).slots t (2 : Fin 5)).cast nbuf0_2)
abbrev ms3 (t : Fin (cfgA pf hp).N) : Memref sig .tc .vmem S1x1792x1024 .bf16 := spec0_3.stage ((cfgA pf hp).slots t (3 : Fin 5))
abbrev hs3 (t : Fin (cfgA pf hp).N) : (ms3 pf hp t).IsWhole := hstage0_3 (((cfgA pf hp).slots t (3 : Fin 5)).cast nbuf0_3)
abbrev ms4 (t : Fin (cfgA pf hp).N) : Memref sig .tc .vmem S512x1024 .f32 := spec0_4.stage ((cfgA pf hp).slots t (4 : Fin 5))
abbrev hs4 (t : Fin (cfgA pf hp).N) : (ms4 pf hp t).IsWhole := hstage0_4 (((cfgA pf hp).slots t (4 : Fin 5)).cast nbuf0_4)

/-- Window `w`'s block at point `t`, read off its array as the region finds it. -/
def iblk (c : Dev nD) (w : Fin (cfgA pf hp).W) (t : Fin (cfgA pf hp).N) : (((cfgA pf hp).win w).xblock (crd pf hp t)).Idx → Elt F ((cfgA pf hp).win w).elt :=
  (((cfgA pf hp).win w).blk t).view.read (Elt F) (V m c (Pipeline.arrRef spec0 w))

/-- The two points of tile `k`. -/
def ptA (k : Fin 137) : Fin (cfgA pf hp).N := ⟨2 * k.val, by have := k.isLt; show _ < grid0.N; rw [N_0]; omega⟩
def ptB (k : Fin 137) : Fin (cfgA pf hp).N := ⟨2 * k.val + 1, by have := k.isLt; show _ < grid0.N; rw [N_0]; omega⟩

/-- The first half's product of tile `k`, -/
def accOf (c : Dev nD) (k : Fin 137) : Vec F S512x1024 .f32 :=
  k0_pay2 (iblk pf hp m c (0 : Fin 5) (ptA pf hp k)) (iblk pf hp m c (1 : Fin 5) (ptA pf hp k)) (iblk pf hp m c (2 : Fin 5) (ptA pf hp k)) (iblk pf hp m c (3 : Fin 5) (ptA pf hp k))

/-- and the tile's result. -/
def outOf (c : Dev nD) (k : Fin 137) : Vec F S512x1024 .f32 :=
  k0_pay3 (iblk pf hp m c (0 : Fin 5) (ptB pf hp k)) (iblk pf hp m c (1 : Fin 5) (ptB pf hp k)) (iblk pf hp m c (2 : Fin 5) (ptB pf hp k)) (iblk pf hp m c (3 : Fin 5) (ptB pf hp k)) (accOf pf hp m c k)

/-- The tile a point stands at: past the tiles in use, the last of them. -/
def tileOf (pf : pre0.Contents (Elt F)) (t : Nat) (ht : t < 274) : Fin 137 := ⟨min (t / 2) ((usedOf pf).toNat - 1), by omega⟩

theorem lt_N (t : Fin (cfgA pf hp).N) : t.val < 274 := by have := t.isLt; have h : (cfgA pf hp).N = 274 := N_0; omega

/-- Before position `t` the scratch buffer holds the first half's product when `t` is a second half in use. -/
def Phi (c : Dev nD) (t : Fin ((cfgA pf hp).N + 1)) : sProp 𝕄 :=
  iprop((∃ d, ⌜∀ k : Fin 137, t.val = 2 * k.val + 1 → k.val < (usedOf pf).toNat → d = accOf pf hp m c k⌝ ∗ owns (c : Thread nD τ) accBuf fullShare d)
    ∗ (tileTab.view.loc (c : Thread nD τ) ↦{fullShare.right} pf (0 : Fin 2)) ∗ (usedTab.view.loc (c : Thread nD τ) ↦{fullShare.right} pf (1 : Fin 2))
    ∗ ∃ r, prngReg c r)

/-- The proof data. -/
def dats (_ : Fin 1) (c : Dev nD) : Dat τ (Elt F) Unit ℕ (UR sig nD τ) ℕ (cfgA pf hp) c where
  A w := V m c (Pipeline.arrRef spec0 w)
  after w t := match w with
    | ⟨0, _⟩ => iblk pf hp m c (0 : Fin 5) t
    | ⟨1, _⟩ => iblk pf hp m c (1 : Fin 5) t
    | ⟨2, _⟩ => iblk pf hp m c (2 : Fin 5) t
    | ⟨3, _⟩ => iblk pf hp m c (3 : Fin 5) t
    | ⟨4, _⟩ => outOf pf hp m c (tileOf pf t.val (lt_N pf hp t))
  Φ t := Phi pf hp m c t
  q _ := fullShare
  owed _ := 0

theorem A_eq (c : Dev nD) (w : Fin (cfgA pf hp).W) : (dats pf hp m 0 c).A w = V m c (Pipeline.arrRef spec0 w) := by dsimp only [dats]

theorem after_0 (c : Dev nD) (t : Fin (cfgA pf hp).N) : (dats pf hp m 0 c).after (0 : Fin 5) t = iblk pf hp m c (0 : Fin 5) t := by dsimp only [dats]
theorem after_1 (c : Dev nD) (t : Fin (cfgA pf hp).N) : (dats pf hp m 0 c).after (1 : Fin 5) t = iblk pf hp m c (1 : Fin 5) t := by dsimp only [dats]
theorem after_2 (c : Dev nD) (t : Fin (cfgA pf hp).N) : (dats pf hp m 0 c).after (2 : Fin 5) t = iblk pf hp m c (2 : Fin 5) t := by dsimp only [dats]
theorem after_3 (c : Dev nD) (t : Fin (cfgA pf hp).N) : (dats pf hp m 0 c).after (3 : Fin 5) t = iblk pf hp m c (3 : Fin 5) t := by dsimp only [dats]
theorem after_4 (c : Dev nD) (t : Fin (cfgA pf hp).N) : (dats pf hp m 0 c).after (4 : Fin 5) t = outOf pf hp m c (tileOf pf t.val (lt_N pf hp t)) := by dsimp only [dats]

theorem before_0 (c : Dev nD) (t : Fin (cfgA pf hp).N) (d) : (dats pf hp m 0 c).before (0 : Fin 5) t d = iblk pf hp m c (0 : Fin 5) t :=
  ((dats pf hp m 0 c).before_in_eq_fetched (0 : Fin 5) rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA pf hp).N) (d) : (dats pf hp m 0 c).before (1 : Fin 5) t d = iblk pf hp m c (1 : Fin 5) t :=
  ((dats pf hp m 0 c).before_in_eq_fetched (1 : Fin 5) rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA pf hp).N) (d) : (dats pf hp m 0 c).before (2 : Fin 5) t d = iblk pf hp m c (2 : Fin 5) t :=
  ((dats pf hp m 0 c).before_in_eq_fetched (2 : Fin 5) rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgA pf hp).N) (d) : (dats pf hp m 0 c).before (3 : Fin 5) t d = iblk pf hp m c (3 : Fin 5) t :=
  ((dats pf hp m 0 c).before_in_eq_fetched (3 : Fin 5) rfl (fun _ => rfl) (fun _ _ _ => rfl) (fun t => by rw [after_3]; unfold Dat.blockOf iblk; rw [A_eq]; try rfl) t d).trans
    (by unfold Dat.fetched Dat.blockOf iblk; rw [A_eq]; try rfl)

/-- Past the tiles in use the output's buffer stands at the last tile's result. -/
theorem before_4 (c : Dev nD) (t : Fin (cfgA pf hp).N) (h : (usedOf pf).toNat ≤ t.val / 2) (d) :
    (dats pf hp m 0 c).before (4 : Fin 5) t d = (dats pf hp m 0 c).after (4 : Fin 5) t := by
  have hN := lt_N pf hp t
  have hpos := hp.pos
  have hfr : (cfgA pf hp).fresh (4 : Fin 5) t.val = false := by
    rw [fresh_eq pf hp t.val (by omega)]; exact decide_eq_false (by omega)
  have hcarry : ∀ (s : Fin (cfgA pf hp).N) (hs : s.val ≠ 0), (cfgA pf hp).idle (4 : Fin 5) ((cfgA pf hp).grid.coords s) = true → (cfgA pf hp).fresh (4 : Fin 5) s.val = false →
      (dats pf hp m 0 c).after (4 : Fin 5) s = (dats pf hp m 0 c).after (4 : Fin 5) ⟨s.val - 1, by omega⟩ := by
    intro s hs hi hf
    have hsN := lt_N pf hp s
    rw [fresh_eq pf hp s.val (by omega)] at hf
    have hf := of_decide_eq_false hf
    rw [after_4, after_4]
    congr 1
    unfold tileOf
    apply Fin.ext
    show min (s.val / 2) _ = min ((s.val - 1) / 2) _
    omega
  rw [(dats pf hp m 0 c).before_out_traj (4 : Fin 5) rfl (fun _ _ => rfl) hcarry t.val t rfl d, hfr]
  rw [if_neg Bool.false_ne_true, after_4, after_4]
  congr 1
  unfold tileOf
  apply Fin.ext
  show min ((t.val - 1) / 2) _ = min (t.val / 2) _
  omega

/-- What the body reads of the number in use. -/
theorem readUsed_eq (c : Dev nD) : readUsed c (pf (1 : Fin 2)) = usedOf pf := by
  unfold readUsed
  refine congrArg (α := S1.Idx) (β := BitVec 32) (pf (1 : Fin 2)) ?_
  exact one_place _ _

abbrev bodyAt (t : Fin (cfgA pf hp).N) : Prog (TpuEff nD τ sig (Elt F) Λ₀ .tc) PUnit :=
  body (crd pf hp t) (ms0 pf hp t) (hs0 pf hp t) (ms1 pf hp t) (hs1 pf hp t) (ms2 pf hp t) (hs2 pf hp t) (ms3 pf hp t) (hs3 pf hp t) (ms4 pf hp t) (hs4 pf hp t)

set_option maxHeartbeats 4000000 in
/-- One point of the call. -/
theorem sound_body (c : Dev nD) (t : Fin (cfgA pf hp).N) :
    iprop((dats pf hp m 0 c).Φ t.castSucc ∗ (dats pf hp m 0 c).owesAt () t.castSucc
        ∗ (∃ d, owns (c : Thread nD τ) (ms0 pf hp t) fullShare ((dats pf hp m 0 c).before (0 : Fin 5) t d))
        ∗ (∃ d, owns (c : Thread nD τ) (ms1 pf hp t) fullShare ((dats pf hp m 0 c).before (1 : Fin 5) t d))
        ∗ (∃ d, owns (c : Thread nD τ) (ms2 pf hp t) fullShare ((dats pf hp m 0 c).before (2 : Fin 5) t d))
        ∗ (∃ d, owns (c : Thread nD τ) (ms3 pf hp t) fullShare ((dats pf hp m 0 c).before (3 : Fin 5) t d))
        ∗ (∃ d, owns (c : Thread nD τ) (ms4 pf hp t) fullShare ((dats pf hp m 0 c).before (4 : Fin 5) t d)))
      ⊢ wp frame (wpE (defs₀ (F := F)) Variants.none c none) Set.univ (bodyAt pf hp t) fun _ =>
          iprop((dats pf hp m 0 c).Φ t.succ ∗ (dats pf hp m 0 c).owesAt () t.succ
            ∗ bigSep Finset.univ fun w : Fin (cfgA pf hp).W =>
                match (cfgA pf hp).idle w ((cfgA pf hp).grid.coords t) with
                | true =>
                  match ((cfgA pf hp).win w).flush t with
                  | false => iprop(∃ d, owns (c : Thread nD τ) (((cfgA pf hp).win w).stage ((cfgA pf hp).slots t w)) fullShare ((dats pf hp m 0 c).before w t d))
                  | true => owns (c : Thread nD τ) (((cfgA pf hp).win w).stage ((cfgA pf hp).slots t w)) fullShare ((dats pf hp m 0 c).after w t)
                | false => owns (c : Thread nD τ) (((cfgA pf hp).win w).stage ((cfgA pf hp).slots t w)) fullShare ((dats pf hp m 0 c).after w t)) := by
  rw [bigSep_W0]
  have hN := lt_N pf hp t
  have hle := hp.le
  have hc0 : ((crd pf hp t) 0).val = t.val / 2 := coord0 t
  have hc1 : ((crd pf hp t) 1).val = t.val % 2 := coord1 t
  have hidle := idle_iff pf hp t
  have hflush := flush_iff pf hp t
  have hread := readUsed_eq pf c
  rewrite [show (dats pf hp m 0 c).Φ t.succ = Phi pf hp m c t.succ from rfl, show (dats pf hp m 0 c).Φ t.castSucc = Phi pf hp m c t.castSucc from rfl,
    show (dats pf hp m 0 c).owesAt () t.succ = (dats pf hp m 0 c).owesAt () t.castSucc from rfl]
  by_cases hu : t.val / 2 < (usedOf pf).toNat
  · have k1 : k0_cond1 (crd pf hp t) (readUsed c (pf (1 : Fin 2))) = 1#1 := by
      rw [hread]; exact (cond1_iff _ _ hle).2 (by rw [hc0]; exact hu)
    by_cases hpar : t.val % 2 = 0
    · have hi : (cfgA pf hp).idle (4 : Fin 5) ((cfgA pf hp).grid.coords t) = true := by
        rw [← Bool.not_eq_false]; exact fun h => by have := hidle.1 h; omega
      have hf : ((cfgA pf hp).win (4 : Fin 5)).flush t = false := by
        rw [← Bool.not_eq_true]; exact fun h => by have := hflush.1 h; omega
      have ht : t = ptA pf hp ⟨t.val / 2, by omega⟩ := Fin.ext (by show t.val = 2 * (t.val / 2); omega)
      rewrite [hi]
      simp only [before_0, before_1, before_2, before_3, after_0, after_1, after_2, after_3, hf]
      unfold Phi
      iintro ⟨⟨⟨%a0, %ha0, HS0⟩, HT0, HT1, HR⟩, Ho, ⟨%d0, H0⟩, ⟨%d1, H1⟩, ⟨%d2, H2⟩, ⟨%d3, H3⟩, ⟨%d4, H4⟩⟩
      iapply (first_half c (crd pf hp t) (ms0 pf hp t) (hs0 pf hp t) (ms1 pf hp t) (hs1 pf hp t) (ms2 pf hp t) (hs2 pf hp t) (ms3 pf hp t) (hs3 pf hp t) (ms4 pf hp t) (hs4 pf hp t)
        (pf (0 : Fin 2)) (pf (1 : Fin 2)) (iblk pf hp m c (0 : Fin 5) t) (iblk pf hp m c (1 : Fin 5) t) (iblk pf hp m c (2 : Fin 5) t) (iblk pf hp m c (3 : Fin 5) t)
        ((dats pf hp m 0 c).before (4 : Fin 5) t d4) _ k1
        ((first_iff _).2 (by rw [hc1]; exact hpar)) (fun h => by have := (later_iff _).1 h; omega) (fun h => by have := (cond4_iff _).1 h; omega))
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexists a0; iexact HS0
      iintro ⟨H0, H1, H2, H3, HT0, HT1, H4, HS0⟩
      isplitl [HS0 HT0 HT1 HR]
      · isplitl [HS0]
        · iexists _; isplitr; swap
          · iexact HS0
          · ipureintro; intro k hk _
            have hk' : (⟨t.val / 2, by omega⟩ : Fin 137) = k := Fin.ext (by
              have : t.val + 1 = 2 * k.val + 1 := hk
              show t.val / 2 = k.val; omega)
            unfold accOf; rw [← hk', ← ht]
        isplitl [HT0]; · iexact HT0
        isplitl [HT1]; · iexact HT1
        iexact HR
      isplitl [Ho]; · iexact Ho
      isplitl [H0]; · iexact H0
      isplitl [H1]; · iexact H1
      isplitl [H2]; · iexact H2
      isplitl [H3]; · iexact H3
      iexists d4; iexact H4
    · have hi : (cfgA pf hp).idle (4 : Fin 5) ((cfgA pf hp).grid.coords t) = false := hidle.2 ⟨by omega, hu⟩
      have ht : t = ptB pf hp (tileOf pf t.val hN) := Fin.ext (by show t.val = 2 * min (t.val / 2) _ + 1; omega)
      rewrite [hi]
      simp only [before_0, before_1, before_2, before_3, after_0, after_1, after_2, after_3, after_4]
      unfold Phi
      iintro ⟨⟨⟨%a0, %ha0, HS0⟩, HT0, HT1, HR⟩, Ho, ⟨%d0, H0⟩, ⟨%d1, H1⟩, ⟨%d2, H2⟩, ⟨%d3, H3⟩, ⟨%d4, H4⟩⟩
      have ha : a0 = accOf pf hp m c (tileOf pf t.val hN) := ha0 _ (by show t.val = 2 * min (t.val / 2) _ + 1; omega) (by show min (t.val / 2) _ < _; omega)
      subst ha
      iapply (second_half c (crd pf hp t) (ms0 pf hp t) (hs0 pf hp t) (ms1 pf hp t) (hs1 pf hp t) (ms2 pf hp t) (hs2 pf hp t) (ms3 pf hp t) (hs3 pf hp t) (ms4 pf hp t) (hs4 pf hp t)
        (pf (0 : Fin 2)) (pf (1 : Fin 2)) (iblk pf hp m c (0 : Fin 5) t) (iblk pf hp m c (1 : Fin 5) t) (iblk pf hp m c (2 : Fin 5) t) (iblk pf hp m c (3 : Fin 5) t)
        (accOf pf hp m c (tileOf pf t.val hN)) _ k1
        (fun h => by have := (first_iff _).1 h; omega) ((later_iff _).2 (by rw [hc1]; omega)) ((cond4_iff _).2 (by rw [hc1]; omega)))
      isplitl [H0]; · iexact H0
      isplitl [H1]; · iexact H1
      isplitl [H2]; · iexact H2
      isplitl [H3]; · iexact H3
      isplitl [HT0]; · iexact HT0
      isplitl [HT1]; · iexact HT1
      isplitl [H4]; · iexists _; iexact H4
      isplitl [HS0]; · iexact HS0
      iintro ⟨H0, H1, H2, H3, HT0, HT1, H4, HS0⟩
      isplitl [HS0 HT0 HT1 HR]
      · isplitl [HS0]
        · iexists _; isplitr; swap
          · iexact HS0
          · ipureintro; intro k hk _
            have : t.val + 1 = 2 * k.val + 1 := hk
            omega
        isplitl [HT0]; · iexact HT0
        isplitl [HT1]; · iexact HT1
        iexact HR
      isplitl [Ho]; · iexact Ho
      isplitl [H0]; · iexact H0
      isplitl [H1]; · iexact H1
      isplitl [H2]; · iexact H2
      isplitl [H3]; · iexact H3
      unfold outOf
      rw [← ht]
      iexact H4
  · have k1 : ¬(k0_cond1 (crd pf hp t) (readUsed c (pf (1 : Fin 2))) = 1#1) := by
      rw [hread]; exact fun h => hu (by have := (cond1_iff _ _ hle).1 h; rw [hc0] at this; exact this)
    have hi : (cfgA pf hp).idle (4 : Fin 5) ((cfgA pf hp).grid.coords t) = true := by
      rw [← Bool.not_eq_false]; exact fun h => by have := hidle.1 h; omega
    have hb := before_4 pf hp m c t (by omega)
    rewrite [hi]
    simp only [before_0, before_1, before_2, before_3, after_0, after_1, after_2, after_3, hb]
    unfold Phi
    iintro ⟨⟨⟨%a0, %ha0, HS0⟩, HT0, HT1, HR⟩, Ho, ⟨%d0, H0⟩, ⟨%d1, H1⟩, ⟨%d2, H2⟩, ⟨%d3, H3⟩, ⟨%d4, H4⟩⟩
    iapply (past_used c (crd pf hp t) (ms0 pf hp t) (hs0 pf hp t) (ms1 pf hp t) (hs1 pf hp t) (ms2 pf hp t) (hs2 pf hp t) (ms3 pf hp t) (hs3 pf hp t) (ms4 pf hp t) (hs4 pf hp t)
      (pf (1 : Fin 2)) _ k1)
    isplitl [HT1]; · iexact HT1
    iintro HT1
    isplitl [HS0 HT0 HT1 HR]
    · isplitl [HS0]
      · iexists a0; isplitr; swap
        · iexact HS0
        · ipureintro; intro k hk hk'
          have : t.val + 1 = 2 * k.val + 1 := hk
          omega
      isplitl [HT0]; · iexact HT0
      isplitl [HT1]; · iexact HT1
      iexact HR
    isplitl [Ho]; · iexact Ho
    isplitl [H0]; · iexact H0
    isplitl [H1]; · iexact H1
    isplitl [H2]; · iexact H2
    isplitl [H3]; · iexact H3
    generalize ((cfgA pf hp).win (4 : Fin 5)).flush t = b
    cases b
    · iexists d4; iexact H4
    · iexact H4

theorem body_obligation (c : Dev nD) : BodyObligation (dats pf hp m 0 c) (defs₀ (F := F)) Variants.none () Set.univ := fun t => by
  rw [bigSep_W0]
  exact sound_body pf hp m c t

/-! ## The launch -/

abbrev pcs : Fin 1 → Pipeline.Cfg sig Λ₀ := Pipeline.pin (pcfgs (F := F)) fun _ => adm pf hp

theorem share_eq (c : Dev nD) (w : Fin (cfgA pf hp).W) : (dats pf hp m 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- Owning the scratch buffer is holding it. -/
theorem acc_owns (c : Dev nD) (d : Buf (Elt F) ((c : Thread nD τ).loc cc0_scratch0)) :
    (owns (c : Thread nD τ) accBuf fullShare d : sProp 𝕄) = (((c : Thread nD τ).loc cc0_scratch0) ↦{fullShare} d) :=
  owns_whole (c : Thread nD τ) cc0_scratch0 fullShare d

/-- The invariant before the first point, -/
theorem phi_intro (c : Dev nD) :
    iprop(Pipeline.ΦA spec0 c ∗ Pipeline.ΦT pre0 (adm pf hp).1 c) ⊢ (dats pf hp m 0 c).Φ 0 := by
  unfold Pipeline.ΦA Pipeline.ΦT
  rw [prefHeld_eq, scopedRest0_eq, show (dats pf hp m 0 c).Φ 0 = Phi pf hp m c 0 from rfl]
  unfold Phi
  iintro ⟨⟨⟨%a0, HS0⟩, HR⟩, HT0, HT1⟩
  isplitl [HS0]
  · iexists a0; isplitr
    · ipureintro; intro k hk; exact absurd hk (by show (0 : Nat) ≠ _; omega)
    rw [acc_owns]; iexact HS0
  isplitl [HT0]; · iexact HT0
  isplitl [HT1]; · iexact HT1
  iexact HR

/-- and after the last. -/
theorem phi_exit (c : Dev nD) : (dats pf hp m 0 c).Φ (Fin.last (cfgA pf hp).N) ⊢ Pipeline.ΦA spec0 c := by
  unfold Pipeline.ΦA
  rw [scopedRest0_eq, show (dats pf hp m 0 c).Φ (Fin.last (cfgA pf hp).N) = Phi pf hp m c (Fin.last _) from rfl]
  unfold Phi
  iintro ⟨⟨%d, -, HS0⟩, -, -, HR⟩
  isplitl [HS0]
  · ihave HS1 := (Entails.of_eq (acc_owns c d)) $$ HS0
    iexists d; iexact HS1
  iexact HR

theorem V_pre (hm : ∀ (c : Dev nD) (k : Fin 2), m ((c : Thread nD τ).loc (pre0.ref k)) = pf k) (c : Dev nD) (k : Fin 2) : V m c (pre0.ref k) = (adm pf hp).1 k := by
  refine Eq.trans ?_ (hm c k)
  match k with
  | ⟨0, _⟩ => exact V_keeps m c main_arg1 (by decide) (by decide) (by decide) (by decide)
  | ⟨1, _⟩ => exact V_keeps m c main_arg2 (by decide) (by decide) (by decide) (by decide)

set_option backward.isDefEq.respectTransparency.types false in
set_option maxHeartbeats 4000000 in
/-- Every run ends with the output array at what the tiles leave, every other unscoped buffer as the region found it, and
    every counter at zero. -/
theorem run (hm : ∀ (c : Dev nD) (k : Fin 2), m ((c : Thread nD τ).loc (pre0.ref k)) = pf k) :
    θ_run (defs (F := F)) (onTc (τ := τ) (main (F := F))) ⟨m, fun _ => 0, ρ⟩
      (fun r => Pipeline.FramePost (pcs pf hp) (dats pf hp m) 0 (V m) r ∧ r.2.sem = fun _ => 0) :=
  Pipeline.θ_run_frameP_track (Q' := _) pcfgs (fun _ => adm pf hp) (dats pf hp m) (0 : Fin 1) launch0 defs₀ Variants.none m ρ main
    (hbody := fun c => (body_obligation pf hp m c).loose) (hshare := share_eq pf hp m)
    (howed := fun _ _ => rfl) (V := V m)
    (hmain := Pipeline.hmainP_prefix pcfgs 0 defs₀ Variants.none m main hostOps0 hostOps0_sub hostOps0_fresh main_chain)
    (hA := A_eq pf hp m) (hpf := V_pre pf hp m hm)
    (hin := phi_intro pf hp m) (hout := phi_exit pf hp m)

/-- The run with each argument unchanged and the output array named. -/
theorem run_named (hm : ∀ (c : Dev nD) (k : Fin 2), m ((c : Thread nD τ).loc (pre0.ref k)) = pf k) :
    θ_run (defs (F := F)) (onTc (τ := τ) (main (F := F))) ⟨m, fun _ => 0, ρ⟩ (fun r => (∀ c : Dev nD,
        r.2.mem ((c.tc : Thread nD τ).loc main_v4) = (dats pf hp m 0 c).arrAt (4 : Fin 5) (cfgA pf hp).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run _ _ _).mono (fun r h => ⟨fun c => ⟨(h.1 c).1 (4 : Fin 5),
      ((h.1 c).2 main_arg0 (show main_arg0 ∈ Pipeline.restRefs sig spec0 from by decide)).trans (V_keeps m c main_arg0 (by decide) (by decide) (by decide) (by decide)),
      ((h.1 c).2 main_arg1 (show main_arg1 ∈ Pipeline.restRefs sig spec0 from by decide)).trans (V_keeps m c main_arg1 (by decide) (by decide) (by decide) (by decide)),
      ((h.1 c).2 main_arg2 (show main_arg2 ∈ Pipeline.restRefs sig spec0 from by decide)).trans (V_keeps m c main_arg2 (by decide) (by decide) (by decide) (by decide)),
      ((h.1 c).2 main_arg3 (show main_arg3 ∈ Pipeline.restRefs sig spec0 from by decide)).trans (V_keeps m c main_arg3 (by decide) (by decide) (by decide) (by decide)),
      ((h.1 c).2 main_arg4 (show main_arg4 ∈ Pipeline.restRefs sig spec0 from by decide)).trans (V_keeps m c main_arg4 (by decide) (by decide) (by decide) (by decide)),
      ((h.1 c).2 main_arg5 (show main_arg5 ∈ Pipeline.restRefs sig spec0 from by decide)).trans (V_keeps m c main_arg5 (by decide) (by decide) (by decide) (by decide))⟩, h.2⟩)
    (run pf hp m ρ hm)

end Run

end Cert.ExpertsIdeal.Sched

end

end
-- ==== Proof.ExpFrames.lean ====
module

public import proofs.«01_k».proof.Proof.ExpRun
public import proofs.«01_k».proof.Defs
public import proofs.«01_k».proof.Proof.Gen.Experts.Skeleton
public import proofs.«01_k».proof.Proof.Gen.Experts.Launch
public import proofs.«01_k».proof.Proof.Gen.Pre_tables_ok
public import proofs.«01_k».proof.Proof.Gen.On_used_rows
public import Idealize.ShloMosaic.Lib.ReduceAll

/-!
# The tables, the mask, and the frames of the experts' call

The precondition bounds the tables' words; the mask is set on the rows of the tiles in use.
-/

set_option maxRecDepth 16384
set_option Elab.async false

@[expose] public section

noncomputable section

namespace Cert.ExpertsIdeal.Sched

open Idealize.ShloMosaic Idealize.ShloMosaic.TcCoe Idealize.SL.Sem
open Cert.ExpertsIdeal Cert.ExpertsIdeal.Gen

variable {F : FTy → Type} [FloatOps F]

theorem andi_left {a b : BitVec 1} (h : IntOp.andi a b = 1#1) : a = 1#1 := by
  revert h; revert a b; decide
theorem andi_right {a b : BitVec 1} (h : IntOp.andi a b = 1#1) : b = 1#1 := by
  revert h; revert a b; decide

instance : Subsingleton Pre_tables_ok.S_.Idx := ⟨fun x y => funext fun a => a.elim0⟩

/-- The tables of a launch memory. -/
def tabs (m : (ℓ : Loc nD τ sig) → Buf (Elt F) ℓ) : pre0.Contents (Elt F) := fun k => m (((0 : Dev nD) : Thread nD τ).loc (pre0.ref k))

theorem tabs_held (m : (ℓ : Loc nD τ sig) → Buf (Elt F) ℓ) (c : Dev nD) (k : Fin 2) : m ((c : Thread nD τ).loc (pre0.ref k)) = tabs m k := by
  obtain rfl : c = 0 := Subsingleton.elim (α := Fin 1) c 0
  rfl

/-- A word between two small bounds, read signed, is that number. -/
theorem toNat_of_bounds {x : BitVec 32} {a b : Nat} (ha : a < 2 ^ 31) (hb : b < 2 ^ 31)
    (h : (BitVec.ofNat 32 a).toInt ≤ x.toInt) (h' : x.toInt ≤ (BitVec.ofNat 32 b).toInt) : a ≤ x.toNat ∧ x.toNat ≤ b := by
  have e : ∀ n : Nat, n < 2 ^ 31 → (BitVec.ofNat 32 n).toInt = n := fun n hn => by
    rw [BitVec.toInt_ofNat']; simp only [Int.bmod]; omega
  rw [e a ha] at h; rw [e b hb] at h'
  rw [BitVec.toInt_eq_toNat_cond] at h h'
  have := x.isLt
  split at h <;> omega

/-- The precondition, as bounds. -/
theorem inRange (x : FVec F Pre_tables_ok.S70144x1024 .f32) (te : IVec Pre_tables_ok.S137 32) (nu : IVec Pre_tables_ok.S1 32)
    (w1 w3 : FVec F Pre_tables_ok.S8x1024x3584 .f32) (w2 : FVec F Pre_tables_ok.S8x3584x1024 .f32)
    (h : Pre_tables_ok.fn (F := F) x te nu w1 w3 w2 = fun _ => 1#1) (pf : pre0.Contents (Elt F)) (h0 : pf (0 : Fin 2) = te) (h1 : pf (1 : Fin 2) = nu) :
    InRange pf := by
  have e := congrFun h (fun a => a.elim0)
  have eA := andi_left (andi_left e)
  have eB := andi_right (andi_left e)
  have eC := andi_right e
  have hu : 1 ≤ (usedOf pf).toNat ∧ (usedOf pf).toNat ≤ 137 := by
    have hx : ∀ y : S1.Idx, nu y = usedOf pf := fun y => by
      unfold usedOf; rw [h1]; exact congrArg nu (one_place _ _)
    have eB := IntOp.cmpi_sge.1 eB
    have eC := IntOp.cmpi_sle.1 eC
    refine toNat_of_bounds (by decide) (by decide) ?_ ?_
    · rw [← hx]; exact eB
    · rw [← hx]; exact eC
  refine ⟨fun y => ?_, hu.1, hu.2⟩
  have ey := Host.reduce_andi_all _ _ _ _ _ eA y
  have ea := IntOp.cmpi_sge.1 (andi_left ey)
  have eb := IntOp.cmpi_slt.1 (andi_right ey)
  have : 0 ≤ (expertsOf pf y).toNat ∧ (expertsOf pf y).toNat ≤ 7 := by
    refine toNat_of_bounds (by decide) (by decide) ?_ ?_
    · unfold expertsOf; rw [h0]; exact ea
    · unfold expertsOf; rw [h0]
      have : (te y).toInt < (8#32).toInt := eb
      have e8 : (8#32).toInt = 8 := by decide
      have e7 : (BitVec.ofNat 32 7).toInt = 7 := by decide
      rw [e7]; rw [e8] at this; omega
  omega

/-- The mask is set on the rows of the tiles in use only. -/
theorem row_lt (x : FVec F On_used_rows.S70144x1024 .f32) (te : IVec On_used_rows.S137 32) (nu : IVec On_used_rows.S1 32)
    (w1 w3 : FVec F On_used_rows.S8x1024x3584 .f32) (w2 : FVec F On_used_rows.S8x3584x1024 .f32) (i : On_used_rows.S70144x1024.Idx)
    (h : On_used_rows.fn (F := F) x te nu w1 w3 w2 i = 1#1) (pf : pre0.Contents (Elt F)) (hp : InRange pf) (h1 : pf (1 : Fin 2) = nu) :
    (i 0).val < 512 * (usedOf pf).toNat := by
  have hx : ∀ y : S1.Idx, nu y = usedOf pf := fun y => by
    unfold usedOf; rw [h1]; exact congrArg nu (one_place _ _)
  have hle := hp.le
  have e : (BitVec.ofNat 32 (i 0).val).toInt < (usedOf pf * 512#32).toInt := by
    rw [← hx]; exact IntOp.cmpi_slt.1 h
  have hi : (i 0).val < 70144 := (i 0).isLt
  generalize usedOf pf = n at *
  rw [BitVec.toInt_eq_toNat_cond, BitVec.toInt_eq_toNat_cond, BitVec.toNat_mul] at e
  simp only [BitVec.toNat_ofNat] at e
  have e2 : n.toNat * (512 % 2 ^ 32) % 2 ^ 32 = n.toNat * 512 := by omega
  have e3 : (i 0).val % 2 ^ 32 = (i 0).val := by omega
  rw [e2, e3] at e
  split at e <;> split at e <;> omega

theorem inRange_of (m : (ℓ : Loc nD τ sig) → Buf (Elt Ideal) ℓ) (h : Pre_ExpertsIdeal m) : InRange (tabs m) :=
  inRange _ _ _ _ _ _ (h 0) (tabs m) rfl rfl

/-- The run's frame, over any values. -/
theorem frame_any (m : (ℓ : Loc nD τ sig) → Buf (Elt F) ℓ) (ρ : Dev nD → PrngReg) (hp : InRange (tabs m)) :
    θ_run (defs (F := F)) (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run _ _ _).mono (fun _ e => ⟨fun c => (e.1 c).2, e.2⟩) (run_named (tabs m) hp m ρ (tabs_held m))

/-- Every run terminates with the arguments unchanged and every counter at zero. -/
theorem frame_ideal : quiescent_ExpertsIdeal := fun m ρ h => frame_any m ρ (inRange_of m h)

/-- The two texts' bodies are one. -/
theorem body_text : Cert.Experts.cc0_moe_experts (F := Bits) = Cert.ExpertsIdeal.cc0_moe_experts :=
  Cert.Experts.Gen.cc0_moe_experts_eq_skeleton.trans
    ((show Cert.Experts.Gen.cc0_moe_experts_skel (F := Bits) = cc0_moe_experts_skel from rfl).trans cc0_moe_experts_eq_skeleton.symm)

theorem defs_text : Cert.Experts.defs₀ (F := Bits) = Cert.ExpertsIdeal.defs₀ := by
  unfold Cert.Experts.defs₀ Cert.ExpertsIdeal.defs₀
  refine congrArg Defs.onTc ?_
  funext l a
  match l, a with
  | 0, (t, s) =>
    show Cert.Experts.cc0_moe_experts (F := Bits) _ _ _ _ _ _ _ _ _ _ _ _ _ _ _ _ _ = _
    rw [body_text]; rfl
  | ⟨n + 1, h⟩, _ => exact absurd h (Nat.not_lt.2 (Nat.le_add_left _ _))

theorem all_text : Cert.Experts.defs (F := Bits) = Cert.ExpertsIdeal.defs :=
  congrArg (Pipeline.defs (pcfgs (F := Bits))) defs_text

theorem main_text : Cert.Experts.main (F := Bits) = Cert.ExpertsIdeal.main := rfl

set_option maxHeartbeats 4000000 in
/-- The same of the program as it is printed for words: its text is the same. -/
theorem frame_bits : quiescent_Experts := fun m ρ h => by
  rw [all_text, main_text]
  exact frame_any (F := Bits) m ρ (inRange (F := Bits) _ _ _ _ _ _ (h 0) (tabs (F := Bits) m) rfl rfl)

end Cert.ExpertsIdeal.Sched

end

end
-- ==== Proof.ExpValue.lean ====
module

public import Idealize.ShloMosaic.Lib.Pipeline.ValueKit
public import Idealize.ShloMosaic.Lib.Pipeline.ReadBack
public import Idealize.ShloMosaic.Lib.Pointwise
public import Idealize.ShloMosaic.Lib.Tactic.CleanTypes
public import proofs.«01_k».proof.Proof.ExpRun

/-!
# One tile of the experts, read at an index

A tile's rows go through one expert: up and gate products, their gated product, and the product down. The kernel does the
hidden columns in two halves; the two halves' sums are the whole sum.
-/

set_option maxRecDepth 16384
set_option Elab.async false
set_option maxHeartbeats 2000000

@[expose] public section

noncomputable section

namespace Cert.ExpertsIdeal.Sched

open Idealize.ShloMosaic Idealize.ShloMosaic.TcCoe Idealize.SL.Sem
open Cert.ExpertsIdeal Cert.ExpertsIdeal.Gen

/-- The gated product of one hidden column: `a · sigmoid a · b`. -/
def gated (a b : EReal) : EReal :=
  FloatOps.mulf (F := Ideal) (φ := .f32)
    (FloatOps.mulf (F := Ideal) (φ := .f32) a (FloatOps.divf (F := Ideal) (φ := .f32) (Ideal.ofBits .f32 0x3F800000#32)
      (FloatOps.addf (F := Ideal) (φ := .f32) (Ideal.ofBits .f32 0x3F800000#32)
        (FloatOps.exp (F := Ideal) (φ := .f32) (FloatOps.subf (F := Ideal) (φ := .f32) (Ideal.ofBits .f32 0x00000000#32) a))))) b

/-- One half of a tile's hidden columns, at an index. -/
def halfAt (x : Vec Ideal S512x1024 .bf16) (g u : Vec Ideal S1x1024x1792 .bf16) (d : Vec Ideal S1x1792x1024 .bf16)
    (r : Fin 512) (j : Fin 1024) : EReal :=
  ∑ f : Fin 1792, gated (∑ k : Fin 1024, x (ix2 r k) * g (ix3 0 k f)) (∑ k : Fin 1024, x (ix2 r k) * u (ix3 0 k f)) * d (ix3 0 f j)

theorem pay1_apply (x : Vec Ideal S512x1024 .bf16) (g u : Vec Ideal S1x1024x1792 .bf16) (d : Vec Ideal S1x1792x1024 .bf16)
    (r : Fin 512) (j : Fin 1024) : k0_pay1 (F := Ideal) x g u d (ix2 r j) = halfAt x g u d r j := by
  unfold k0_pay1
  clean_types
  pointwise [halfAt, gated]

section
variable (pf : pre0.Contents (Elt Ideal)) (hp : InRange pf) (m : (ℓ : Loc nD τ sig) → Buf (Elt Ideal) ℓ) (c : Dev nD)

/-- The arrays the kernel reads: the conversions round nothing away. -/
abbrev xOf : Vec Ideal S70144x1024 .f32 := m ((c : Thread nD τ).loc main_arg0)
abbrev w1Of : Vec Ideal S8x1024x3584 .f32 := m ((c : Thread nD τ).loc main_arg3)
abbrev w3Of : Vec Ideal S8x1024x3584 .f32 := m ((c : Thread nD τ).loc main_arg4)
abbrev w2Of : Vec Ideal S8x3584x1024 .f32 := m ((c : Thread nD τ).loc main_arg5)

theorem V_x (i : S70144x1024.Idx) : (V m c main_v0 : Vec Ideal S70144x1024 .bf16) i = (xOf m c i : EReal) := by
  unfold V hostOps0
  entry_read
  rfl
theorem V_w1 (i : S8x1024x3584.Idx) : (V m c main_v1 : Vec Ideal S8x1024x3584 .bf16) i = (w1Of m c i : EReal) := by
  unfold V hostOps0
  entry_read
  rfl
theorem V_w3 (i : S8x1024x3584.Idx) : (V m c main_v2 : Vec Ideal S8x1024x3584 .bf16) i = (w3Of m c i : EReal) := by
  unfold V hostOps0
  entry_read
  rfl
theorem V_w2 (i : S8x3584x1024.Idx) : (V m c main_v3 : Vec Ideal S8x3584x1024 .bf16) i = (w2Of m c i : EReal) := by
  unfold V hostOps0
  entry_read
  rfl

theorem x_index (t : Fin grid0.N) : ((cfg0 (adm pf hp)).win (0 : Fin 5)).index t = ![min (t.val / 2) ((usedOf pf).toNat - 1), 0] := by
  rw [← coord0]
  exact rows0_eq pf hp (grid0.coords t) _ _

theorem x_block (t : Fin grid0.N) (k : Fin 137) (hk : k.val < (usedOf pf).toNat) (ht : t.val / 2 = k.val) (r : Fin 512) (j : Fin 1024) :
    iblk pf hp m c (0 : Fin 5) t (ix2 r j) = (xOf m c (ix2 ⟨512 * k.val + r.val, by omega⟩ j) : EReal) := by
  have e := x_index pf hp t
  have e2 : min (t.val / 2) ((usedOf pf).toNat - 1) = k.val := by omega
  rw [e2] at e
  refine Eq.trans ?_ (V_x m c _)
  blk_ext! [iblk, e]

theorem up_index (t : Fin grid0.N) (k : Fin 137) (hk : k.val < (usedOf pf).toNat) (ht : t.val / 2 = k.val) :
    ((cfg0 (adm pf hp)).win (1 : Fin 5)).index t = ![(expertsOf pf (tileIx k)).toNat, 0, t.val % 2] := by
  have h0 : (⟨(grid0.coords t 0).val, (grid0.coords t 0).isLt⟩ : Fin 137) = k := Fin.ext ((coord0 t).trans ht)
  have h1 : half pf (grid0.coords t) = t.val % 2 := by
    unfold half; rw [coord0, coord1, if_pos (by omega)]
  refine (up_eq pf hp (grid0.coords t) _ _ _).trans ?_
  rw [h0, h1]
theorem gate_index (t : Fin grid0.N) (k : Fin 137) (hk : k.val < (usedOf pf).toNat) (ht : t.val / 2 = k.val) :
    ((cfg0 (adm pf hp)).win (2 : Fin 5)).index t = ![(expertsOf pf (tileIx k)).toNat, 0, t.val % 2] :=
  up_index pf hp t k hk ht
theorem down_index (t : Fin grid0.N) (k : Fin 137) (hk : k.val < (usedOf pf).toNat) (ht : t.val / 2 = k.val) :
    ((cfg0 (adm pf hp)).win (3 : Fin 5)).index t = ![(expertsOf pf (tileIx k)).toNat, t.val % 2, 0] := by
  have h0 : (⟨(grid0.coords t 0).val, (grid0.coords t 0).isLt⟩ : Fin 137) = k := Fin.ext ((coord0 t).trans ht)
  have h1 : half pf (grid0.coords t) = t.val % 2 := by
    unfold half; rw [coord0, coord1, if_pos (by omega)]
  refine (down_eq pf hp (grid0.coords t) _ _ _).trans ?_
  rw [h0, h1]

/-- The expert of tile `k`. -/
def expertAt (k : Fin 137) : Fin 8 := ⟨(expertsOf pf (tileIx k)).toNat, hp.expert _⟩

theorem up_block (t : Fin grid0.N) (k : Fin 137) (hk : k.val < (usedOf pf).toNat) (ht : t.val / 2 = k.val) (i : Fin 1024) (f : Fin 1792) :
    iblk pf hp m c (1 : Fin 5) t (ix3 0 i f) = (w1Of m c (ix3 (expertAt pf hp k) i ⟨1792 * (t.val % 2) + f.val, by omega⟩) : EReal) := by
  have e := up_index pf hp t k hk ht
  refine Eq.trans ?_ (V_w1 m c _)
  unfold expertAt
  blk_ext! [iblk, e]
theorem gate_block (t : Fin grid0.N) (k : Fin 137) (hk : k.val < (usedOf pf).toNat) (ht : t.val / 2 = k.val) (i : Fin 1024) (f : Fin 1792) :
    iblk pf hp m c (2 : Fin 5) t (ix3 0 i f) = (w3Of m c (ix3 (expertAt pf hp k) i ⟨1792 * (t.val % 2) + f.val, by omega⟩) : EReal) := by
  have e := gate_index pf hp t k hk ht
  refine Eq.trans ?_ (V_w3 m c _)
  unfold expertAt
  blk_ext! [iblk, e]
theorem down_block (t : Fin grid0.N) (k : Fin 137) (hk : k.val < (usedOf pf).toNat) (ht : t.val / 2 = k.val) (f : Fin 1792) (j : Fin 1024) :
    iblk pf hp m c (3 : Fin 5) t (ix3 0 f j) = (w2Of m c (ix3 (expertAt pf hp k) ⟨1792 * (t.val % 2) + f.val, by omega⟩ j) : EReal) := by
  have e := down_index pf hp t k hk ht
  refine Eq.trans ?_ (V_w2 m c _)
  unfold expertAt
  blk_ext! [iblk, e]

/-- Hidden column `f`'s part of row `r` of the sorted rows through expert `e`, at column `j`. -/
def partAt (x : FVec Ideal S70144x1024 .f32) (w1 w3 : FVec Ideal S8x1024x3584 .f32) (w2 : FVec Ideal S8x3584x1024 .f32)
    (e : Fin 8) (r : Fin 70144) (j : Fin 1024) (f : Fin 3584) : EReal :=
  gated (∑ k : Fin 1024, x (ix2 r k) * w1 (ix3 e k f)) (∑ k : Fin 1024, x (ix2 r k) * w3 (ix3 e k f)) * w2 (ix3 e f j)

/-- A row of the sorted rows through expert `e`, at column `j`. -/
def rowAt (x : FVec Ideal S70144x1024 .f32) (w1 w3 : FVec Ideal S8x1024x3584 .f32) (w2 : FVec Ideal S8x3584x1024 .f32)
    (e : Fin 8) (r : Fin 70144) (j : Fin 1024) : EReal := ∑ f : Fin 3584, partAt x w1 w3 w2 e r j f

/-- The half a point computes. -/
theorem half_point (t : Fin grid0.N) (k : Fin 137) (hk : k.val < (usedOf pf).toNat) (ht : t.val / 2 = k.val) (r : Fin 512) (j : Fin 1024) :
    k0_pay1 (F := Ideal) (iblk pf hp m c (0 : Fin 5) t) (iblk pf hp m c (1 : Fin 5) t) (iblk pf hp m c (2 : Fin 5) t) (iblk pf hp m c (3 : Fin 5) t) (ix2 r j)
      = (∑ f : Fin 1792, partAt (xOf m c) (w1Of m c) (w3Of m c) (w2Of m c) (expertAt pf hp k) ⟨512 * k.val + r.val, by omega⟩ j ⟨1792 * (t.val % 2) + f.val, by omega⟩ : EReal) := by
  refine (pay1_apply _ _ _ _ r j).trans ?_
  unfold halfAt partAt
  refine Finset.sum_congr rfl fun f _ => ?_
  refine congrArg₂ _ (congrArg₂ gated ?_ ?_) (down_block pf hp m c t k hk ht f j)
  · exact Finset.sum_congr rfl fun i _ => congrArg₂ _ (x_block pf hp m c t k hk ht r i) (up_block pf hp m c t k hk ht i f)
  · exact Finset.sum_congr rfl fun i _ => congrArg₂ _ (x_block pf hp m c t k hk ht r i) (gate_block pf hp m c t k hk ht i f)

/-- The hidden columns are two halves. -/
theorem sum_halves (g : Fin 3584 → EReal) :
    (∑ f : Fin 1792, g ⟨1792 * 0 + f.val, by omega⟩) + (∑ f : Fin 1792, g ⟨1792 * 1 + f.val, by omega⟩) = ∑ f : Fin 3584, g f := by
  rw [Fin.sum_univ_add (a := 1792) (b := 1792) g]
  refine congrArg₂ _ (Finset.sum_congr rfl fun f _ => congrArg g (Fin.ext ?_)) (Finset.sum_congr rfl fun f _ => congrArg g (Fin.ext ?_))
  · simp
  · simp [Nat.add_comm]

/-- A tile's result: its rows through its expert. -/
theorem outOf_apply (k : Fin 137) (hk : k.val < (usedOf pf).toNat) (r : Fin 512) (j : Fin 1024) :
    outOf pf hp m c k (ix2 r j) = (rowAt (xOf m c) (w1Of m c) (w3Of m c) (w2Of m c) (expertAt pf hp k) ⟨512 * k.val + r.val, by omega⟩ j : EReal) := by
  have hA := half_point pf hp m c (ptA pf hp k) k hk (by show 2 * k.val / 2 = k.val; omega) r j
  have hB := half_point pf hp m c (ptB pf hp k) k hk (by show (2 * k.val + 1) / 2 = k.val; omega) r j
  have eA : (ptA pf hp k).val % 2 = 0 := by show 2 * k.val % 2 = 0; omega
  have eB : (ptB pf hp k).val % 2 = 1 := by show (2 * k.val + 1) % 2 = 1; omega
  simp only [eA] at hA
  simp only [eB] at hB
  unfold rowAt
  rw [← sum_halves]
  unfold outOf accOf k0_pay3 k0_pay2
  clean_types
  pointwise
  exact congrArg₂ _ hA hB

end

end Cert.ExpertsIdeal.Sched

end

end
-- ==== Proof.ExpRef.lean ====
module

public import Idealize.ShloMosaic.Lib.Quiescent
public import Idealize.ShloMosaic.Lib.Pointwise
public import Idealize.ShloMosaic.Lib.Tactic.CleanTypes
public import proofs.«01_k».proof.Defs
public import proofs.«01_k».proof.Proof.ExpValue
public import proofs.«01_k».proof.Proof.Gen.ExpertsRefIdeal.Run

/-!
# What the reference's experts leave

The reference sums all eight experts' results, each times one or zero as the row's expert is that one.
-/

set_option maxRecDepth 16384
set_option Elab.async false
set_option maxHeartbeats 2000000

@[expose] public section

noncomputable section

namespace Cert.ExpertsRefIdeal.Sched

open Idealize.ShloMosaic Idealize.ShloMosaic.TcCoe Idealize.SL.Sem Idealize.ShloMosaic.StableHlo
open Cert.ExpertsRefIdeal Cert.ExpertsRefIdeal.Gen Cert.ExpertsRefIdeal.Value
open Cert.ExpertsIdeal.Sched (gated partAt rowAt)

/-- One expert's summand. -/
def termOf (hid : FVec Ideal S70144x3584 .f32) (x : FVec Ideal S70144x1024 .f32) (b : FVec Ideal S1x1024x3584 .f32) (d : FVec Ideal S1x3584x1024 .f32)
    (g : FVec Ideal S70144x1 .f32) : FVec Ideal S70144x1024 .f32 :=
  mulf (broadcastInDim S70144x1024 ![0, 1] bcast_S70144x1_S70144x1024_0_1 g)
    (Host.dotGeneral dot_S70144x3584_S3584x1024_S70144x1024_1_0_0_1_n_n none
      (mulf (mulf hid (Host.divf (broadcastInDim S70144x3584 ![] bcast_S_S70144x3584 (constant S_ .f32 0x3F800000#32))
          (addf (broadcastInDim S70144x3584 ![] bcast_S_S70144x3584 (constant S_ .f32 0x3F800000#32)) (Host.exp (Host.negf hid)))))
        (Host.dotGeneral dot_S70144x1024_S1024x3584_S70144x3584_1_0_0_1_n_n none x (shapeCast _ b shapeCasts_S1x1024x3584_S1024x3584)))
      (shapeCast _ d shapeCasts_S1x3584x1024_S3584x1024))

/-- The first product of one expert. -/
def hidOf (x : FVec Ideal S70144x1024 .f32) (a : FVec Ideal S1x1024x3584 .f32) : FVec Ideal S70144x3584 .f32 :=
  Host.dotGeneral dot_S70144x1024_S1024x3584_S70144x3584_1_0_0_1_n_n none x (shapeCast _ a shapeCasts_S1x1024x3584_S1024x3584)

theorem hidOf_apply (x : FVec Ideal S70144x1024 .f32) (a : FVec Ideal S1x1024x3584 .f32) (r : Fin 70144) (f : Fin 3584) :
    hidOf x a (ix2 r f) = (∑ k : Fin 1024, x (ix2 r k) * a (ix3 0 k f) : EReal) := by
  unfold hidOf
  clean_types
  pointwise

theorem termOf_apply (x : FVec Ideal S70144x1024 .f32) (hid) (b : FVec Ideal S1x1024x3584 .f32) (d : FVec Ideal S1x3584x1024 .f32)
    (g : FVec Ideal S70144x1 .f32) (r : Fin 70144) (j : Fin 1024) :
    termOf hid x b d g (ix2 r j) = (g (ix2 r 0) * ∑ f : Fin 3584, gated (hid (ix2 r f)) (∑ k : Fin 1024, x (ix2 r k) * b (ix3 0 k f)) * d (ix3 0 f j) : EReal) := by
  unfold termOf
  clean_types
  pointwise [gated]
  simp only [sub_eq_add_neg, zero_add]

theorem word_one (a b : BitVec 32) : (FloatOps.uitofp (F := Ideal) .f32 (IntOp.cmpi .eq a b) : EReal) = if a = b then 1 else 0 := by
  by_cases h : a = b
  · rw [if_pos h, IntOp.cmpi_eq.2 h]
    show (((1#1 : BitVec 1).toNat : ℝ) : EReal) = 1
    norm_num
  · rw [if_neg h, show IntOp.cmpi .eq a b = 0#1 from (BitVec.eq_zero_or_eq_one _).resolve_right fun e => h (IntOp.cmpi_eq.1 e)]
    show (((0#1 : BitVec 1).toNat : ℝ) : EReal) = 0
    norm_num

variable (V0 : Valuation τ sig (Elt Ideal))

/-- The one-hot row of a row's expert. -/
theorem gate_apply (r : Fin 70144) (e : Fin 8) :
    (res_main_v3 V0 : FVec Ideal S70144x8 .f32) (ix2 r e)
      = (if (V0 (Proc.devRef .tc main_arg1) : IVec S137 32) (ix1 ⟨r.val / 512, by omega⟩) = BitVec.ofNat 32 e.val then 1 else 0 : EReal) := by
  unfold res_main_v3
  clean_types
  pointwise
  exact word_one _ _

theorem gate_slice (g : FVec Ideal S70144x8 .f32) (e : Fin 8) (h : S70144x8.Slices ![0, e.val] S70144x1) (r : Fin 70144) :
    extractStridedSlice S70144x1 ![0, e.val] g h (ix2 r 0) = g (ix2 r e) := by
  pointwise
theorem up_slice (w : FVec Ideal S8x1024x3584 .f32) (e : Fin 8) (h : S8x1024x3584.Slices ![e.val, 0, 0] S1x1024x3584) (k : Fin 1024) (f : Fin 3584) :
    extractStridedSlice S1x1024x3584 ![e.val, 0, 0] w h (ix3 0 k f) = w (ix3 e k f) := by
  pointwise
theorem down_slice (w : FVec Ideal S8x3584x1024 .f32) (e : Fin 8) (h : S8x3584x1024.Slices ![e.val, 0, 0] S1x3584x1024) (f : Fin 3584) (j : Fin 1024) :
    extractStridedSlice S1x3584x1024 ![e.val, 0, 0] w h (ix3 0 f j) = w (ix3 e f j) := by
  pointwise

/-- One expert's summand, at an index. -/
theorem term_apply (x : FVec Ideal S70144x1024 .f32) (w1 w3 : FVec Ideal S8x1024x3584 .f32) (w2 : FVec Ideal S8x3584x1024 .f32)
    (g : FVec Ideal S70144x8 .f32) (e : Fin 8) (h1 h2 h3) (r : Fin 70144) (j : Fin 1024) :
    termOf (hidOf x (extractStridedSlice S1x1024x3584 ![e.val, 0, 0] w1 h1)) x (extractStridedSlice S1x1024x3584 ![e.val, 0, 0] w3 h1)
      (extractStridedSlice S1x3584x1024 ![e.val, 0, 0] w2 h2) (extractStridedSlice S70144x1 ![0, e.val] g h3) (ix2 r j)
      = (g (ix2 r e) * rowAt x w1 w3 w2 e r j : EReal) := by
  rw [termOf_apply, gate_slice]
  unfold rowAt partAt
  simp only [hidOf_apply, up_slice, down_slice]

theorem fits_up (e : Fin 8) : S8x1024x3584.Slices ![e.val, 0, 0] S1x1024x3584 :=
  ⟨rfl, fun a => by fin_cases a <;> simp <;> omega⟩
theorem fits_down (e : Fin 8) : S8x3584x1024.Slices ![e.val, 0, 0] S1x3584x1024 :=
  ⟨rfl, fun a => by fin_cases a <;> simp <;> omega⟩
theorem fits_gate (e : Fin 8) : S70144x8.Slices ![0, e.val] S70144x1 :=
  ⟨rfl, fun a => by fin_cases a <;> simp <;> omega⟩

/-- The arrays the reference reads. -/
abbrev xOf : FVec Ideal S70144x1024 .f32 := V0 (Proc.devRef .tc main_arg0)
abbrev tileExpert : IVec S137 32 := V0 (Proc.devRef .tc main_arg1)
abbrev w1Of : FVec Ideal S8x1024x3584 .f32 := V0 (Proc.devRef .tc main_arg3)
abbrev w3Of : FVec Ideal S8x1024x3584 .f32 := V0 (Proc.devRef .tc main_arg4)
abbrev w2Of : FVec Ideal S8x3584x1024 .f32 := V0 (Proc.devRef .tc main_arg5)

/-- Expert `e`'s summand. -/
def termAt (e : Fin 8) : FVec Ideal S70144x1024 .f32 :=
  termOf (hidOf (xOf V0) (extractStridedSlice S1x1024x3584 ![e.val, 0, 0] (w1Of V0) (fits_up e))) (xOf V0)
    (extractStridedSlice S1x1024x3584 ![e.val, 0, 0] (w3Of V0) (fits_up e))
    (extractStridedSlice S1x3584x1024 ![e.val, 0, 0] (w2Of V0) (fits_down e)) (extractStridedSlice S70144x1 ![0, e.val] (res_main_v3 V0) (fits_gate e))

/-- The result is the eight summands' sum. -/
theorem result_sum : (val3 V0 (Proc.devRef .tc main_v122) : FVec Ideal S70144x1024 .f32)
    = addf (addf (addf (addf (addf (addf (addf (termAt V0 0) (termAt V0 1)) (termAt V0 2)) (termAt V0 3)) (termAt V0 4)) (termAt V0 5)) (termAt V0 6)) (termAt V0 7) :=
  (val3_main_v122 V0).trans rfl

/-- A row of the result is the row through its tile's expert. -/
theorem result_apply (r : Fin 70144) (j : Fin 1024) (e : Fin 8) (he : tileExpert V0 (ix1 ⟨r.val / 512, by omega⟩) = BitVec.ofNat 32 e.val) :
    (val3 V0 (Proc.devRef .tc main_v122) : FVec Ideal S70144x1024 .f32) (ix2 r j)
      = rowAt (xOf V0) (w1Of V0) (w3Of V0) (w2Of V0) e r j := by
  have t : ∀ k : Fin 8, termAt V0 k (ix2 r j) = if k = e then rowAt (xOf V0) (w1Of V0) (w3Of V0) (w2Of V0) e r j else (0 : EReal) := by
    intro k
    unfold termAt
    rw [term_apply, gate_apply]
    by_cases h : k = e
    · subst h
      rw [if_pos he, if_pos rfl, one_mul]
    · have hne : ¬ (V0 (Proc.devRef .tc main_arg1) : IVec S137 32) (ix1 ⟨r.val / 512, by omega⟩) = BitVec.ofNat 32 k.val := fun h' => by
        refine h (Fin.ext ?_)
        have := congrArg BitVec.toNat (he.symm.trans h')
        simp only [BitVec.toNat_ofNat] at this
        omega
      rw [if_neg hne, if_neg h, zero_mul]
  rw [result_sum]
  show ((((((((termAt V0 0 (ix2 r j) + termAt V0 1 (ix2 r j) : EReal) + termAt V0 2 (ix2 r j) : EReal) + termAt V0 3 (ix2 r j) : EReal) + termAt V0 4 (ix2 r j) : EReal)
    + termAt V0 5 (ix2 r j) : EReal) + termAt V0 6 (ix2 r j) : EReal) + termAt V0 7 (ix2 r j) : EReal) : EReal) = _
  simp only [t]
  fin_cases e <;> simp

/-- The reference's frame. -/
theorem frame : Cert.quiescent_ExpertsRefIdeal := fun m ρ _ =>
  (θ_run _ _ _).mono (fun _ h => ⟨fun c => (h c).2, sem_eq_zero_of_no_sems rfl _⟩) (Value.run m ρ)

end Cert.ExpertsRefIdeal.Sched

end

end
-- ==== Proof.ExpClaim.lean ====
module

public import proofs.«01_k».proof.Proof.ExpFrames
public import proofs.«01_k».proof.Proof.ExpValue
public import proofs.«01_k».proof.Proof.ExpRef

/-!
# The experts: the kernel against the reference

After the run the rows of the tiles in use are those rows through their tiles' experts (`ExpValue`), as in the reference (`ExpRef`).
-/

set_option maxRecDepth 16384
set_option Elab.async false
set_option maxHeartbeats 400000

@[expose] public section

noncomputable section

namespace Cert.ExpertsIdeal.Sched

open Idealize.ShloMosaic Idealize.ShloMosaic.TcCoe Idealize.SL.Sem
open Cert.ExpertsIdeal Cert.ExpertsIdeal.Gen

section
variable (pf : pre0.Contents (Elt Ideal)) (hp : InRange pf) (m : (ℓ : Loc nD τ sig) → Buf (Elt Ideal) ℓ) (c : Dev nD)

/-- All the tiles' results, one after another. -/
def tiles : Vec Ideal S70144x1024 .f32 := fun i =>
  outOf pf hp m c ⟨(i 0).val / 512, by have : (i 0).val < 70144 := (i 0).isLt; omega⟩ (ix2 (⟨(i 0).val % 512, Nat.mod_lt _ (by decide)⟩ : Fin 512) (i 1))

theorem flushed_tiles (t : Fin (cfgA pf hp).N) :
    (dats pf hp m 0 c).flushed (4 : Fin 5) t = (((cfgA pf hp).win (4 : Fin 5)).blk t).view.read (Elt Ideal) (tiles pf hp m c) := by
  have e := out_index pf hp t
  have hu := hp.pos
  have hl := hp.le
  have hN := lt_N pf hp t
  show ((cfgA pf hp).win (4 : Fin 5)).cut (grid0.coords t) ((dats pf hp m 0 c).after (4 : Fin 5) t) = _
  rw [after_4]
  funext y
  have hy : (y 0).val < 512 := (y 0).isLt
  have h0 : ((((cfgA pf hp).win (4 : Fin 5)).blk t).view.emb y 0).val = min (t.val / 2) ((usedOf pf).toNat - 1) * 512 + (y 0).val := by
    blk_simp [e]
    try rfl
  have h1 : ((((cfgA pf hp).win (4 : Fin 5)).blk t).view.emb y 1).val = (y 1).val := by
    blk_simp [e]
    try omega
  show outOf pf hp m c (tileOf pf t.val (lt_N pf hp t)) y = tiles pf hp m c ((((cfgA pf hp).win (4 : Fin 5)).blk t).view.emb y)
  unfold tiles
  have hk : tileOf pf t.val (lt_N pf hp t) = ⟨((((cfgA pf hp).win (4 : Fin 5)).blk t).view.emb y 0).val / 512, by rw [h0]; omega⟩ :=
    Fin.ext (by show min (t.val / 2) ((usedOf pf).toNat - 1) = _; simp only [h0]; omega)
  rw [hk]
  congr 1
  funext a
  match a with
  | ⟨0, _⟩ => exact Fin.ext (by show (y 0).val = _ % 512; rw [h0]; omega)
  | ⟨1, _⟩ => exact Fin.ext h1.symm

/-- The rows of the tiles in use, after the run. -/
theorem rows_array (i : S70144x1024.Idx) (hi : (i 0).val < 512 * (usedOf pf).toNat) :
    (dats pf hp m 0 c).arrAt (4 : Fin 5) (cfgA pf hp).N i = tiles pf hp m c i := by
  have hl := hp.le
  have hN : (cfgA pf hp).N = 274 := N_0
  let t : Fin (cfgA pf hp).N := if (i 0).val / 512 + 1 < (usedOf pf).toNat then ⟨2 * ((i 0).val / 512) + 1, by omega⟩ else ⟨273, by omega⟩
  have ht : t.val = 273 ∧ (usedOf pf).toNat = (i 0).val / 512 + 1 ∨ t.val = 2 * ((i 0).val / 512) + 1 ∧ (i 0).val / 512 + 1 < (usedOf pf).toNat := by
    by_cases h : (i 0).val / 512 + 1 < (usedOf pf).toNat
    · exact Or.inr ⟨by simp only [t, if_pos h], h⟩
    · exact Or.inl ⟨by simp only [t, if_neg h], by omega⟩
  have e := out_index pf hp t
  have hr : min (t.val / 2) ((usedOf pf).toNat - 1) = (i 0).val / 512 := by omega
  rw [hr] at e
  have h1 : (i 1).val < 1024 := (i 1).isLt
  refine (dats pf hp m 0 c).arrAt_apply_of_mem (4 : Fin 5) (tiles pf hp m c) (fun t _ => flushed_tiles pf hp m c t) _ t i t.isLt ((flush_iff pf hp t).2 (by omega)) ?_
  clear_value t
  mem_blk [e]
  omega

end

/-- A row of a tile in use, of the kernel's array: the row through its tile's expert. -/
theorem kernel_row (m : (ℓ : Loc nD τ sig) → Buf (Elt Ideal) ℓ) (hp : InRange (tabs m)) (c : Dev nD) (r : Fin 70144) (j : Fin 1024)
    (hr : r.val < 512 * (usedOf (tabs m)).toNat) :
    (dats (tabs m) hp m 0 c).arrAt (4 : Fin 5) (cfgA (tabs m) hp).N (ix2 r j : S70144x1024.Idx)
      = (rowAt (xOf m c) (w1Of m c) (w3Of m c) (w2Of m c) (expertAt (tabs m) hp ⟨r.val / 512, by omega⟩) r j : EReal) := by
  refine (rows_array (tabs m) hp m c (ix2 r j) hr).trans ?_
  refine (outOf_apply (tabs m) hp m c ⟨r.val / 512, by omega⟩ (by show r.val / 512 < _; omega) ⟨r.val % 512, Nat.mod_lt _ (by decide)⟩ j).trans ?_
  refine congrArg (fun r => rowAt (xOf m c) (w1Of m c) (w3Of m c) (w2Of m c) _ r j) (Fin.ext ?_)
  show 512 * (r.val / 512) + r.val % 512 = r.val
  omega

/-- The same of the reference's array, from the same arrays. -/
theorem reference_row (m : (ℓ : Loc nD τ sig) → Buf (Elt Ideal) ℓ) (hp : InRange (tabs m)) (c : Dev nD) (r : Fin 70144) (j : Fin 1024)
    (hr : r.val < 512 * (usedOf (tabs m)).toNat) (V' : Valuation Cert.ExpertsRefIdeal.τ Cert.ExpertsRefIdeal.sig (Elt Ideal))
    (h0 : Cert.ExpertsRefIdeal.Sched.xOf V' = xOf m c) (h1 : Cert.ExpertsRefIdeal.Sched.tileExpert V' = expertsOf (tabs m))
    (h3 : Cert.ExpertsRefIdeal.Sched.w1Of V' = w1Of m c) (h4 : Cert.ExpertsRefIdeal.Sched.w3Of V' = w3Of m c) (h5 : Cert.ExpertsRefIdeal.Sched.w2Of V' = w2Of m c) :
    (Cert.ExpertsRefIdeal.Value.val3 V' (Proc.devRef .tc Cert.ExpertsRefIdeal.main_v122) : FVec Ideal S70144x1024 .f32) (ix2 r j)
      = rowAt (xOf m c) (w1Of m c) (w3Of m c) (w2Of m c) (expertAt (tabs m) hp ⟨r.val / 512, by omega⟩) r j := by
  have hl := hp.le
  rw [← h0, ← h3, ← h4, ← h5]
  refine Cert.ExpertsRefIdeal.Sched.result_apply V' r j (expertAt (tabs m) hp ⟨r.val / 512, by omega⟩) ?_
  rw [h1]
  have ei : (ix1 ⟨r.val / 512, by omega⟩ : S137.Idx) = tileIx ⟨r.val / 512, by omega⟩ := by
    funext a
    match a with
    | ⟨0, _⟩ => rfl
  exact (congrArg (expertsOf (tabs m)) ei).trans (BitVec.eq_of_toNat_eq (by
    rw [BitVec.toNat_ofNat]
    exact Nat.mod_eq_of_lt (BitVec.isLt (expertsOf (tabs m) (tileIx ⟨r.val / 512, by omega⟩))))).symm

/-- On the rows of the tiles in use the kernel's array is the reference's, and both programs keep their arguments. -/
theorem experts_algebraic : Cert.algebraic_ExpertsIdeal_ExpertsRefIdeal_on_used_rows :=
  fun m ρ m' ρ' hpre hag => by
    have hp := inRange_of m hpre
    refine ⟨fun c => Cert.ExpertsRefIdeal.Value.val3 (StableHlo.launchContents m' c) (Proc.devRef .tc Cert.ExpertsRefIdeal.main_v122), ?_, ?_⟩
    · refine (θ_run _ _ _).mono (fun _ e c => ⟨fun i hi => ?_, (e.1 c).2⟩) (run_named (tabs m) hp m ρ (tabs_held m))
      refine (congrFun (e.1 c).1 i).trans ?_
      obtain rfl : c = 0 := Subsingleton.elim (α := Fin 1) c 0
      have hr := row_lt _ _ _ _ _ _ i hi (tabs m) hp rfl
      obtain ⟨h0, h1, h2, h3, h4, h5⟩ := hag 0
      obtain ⟨r, j, rfl⟩ : ∃ (r : Fin 70144) (j : Fin 1024), i = ix2 r j := ⟨i 0, i 1, by funext a; match a with | ⟨0, _⟩ => rfl | ⟨1, _⟩ => rfl⟩
      exact (kernel_row m hp 0 r j hr).trans (reference_row m hp 0 r j hr (StableHlo.launchContents m' 0) h0 h1 h3 h4 h5).symm
    · exact (θ_run _ _ _).mono (fun _ h c => ⟨fun i _ => congrFun ((h c).1.trans (Cert.ExpertsRefIdeal.Value.val3_main_v122 _).symm) i, (h c).2⟩)
        (Cert.ExpertsRefIdeal.Value.run m' ρ')

end Cert.ExpertsIdeal.Sched

end

end
-- ==== Proof.ProjRun.lean ====
module

public import Idealize.ShloMosaic.Lib.Pipeline.ValueKit
public import Idealize.ShloMosaic.Lib.Pipeline.ReadBack
public import proofs.«01_k».proof.Proof.Gen.ProjectIdeal.Run

/-!
# What the projection's points write back

Each point's write-back, by whether it is the last column tile.
-/

set_option maxRecDepth 16384

@[expose] public section

noncomputable section

namespace Cert.Proj

open Cert.ProjectIdeal Cert.ProjectIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]
theorem flushed2_A (c : Dev nD) (t : Fin cfg0.N) (h0 : ¬t.val % 4 = 3) :
    (dats m 0 c).flushed 2 t = (cfg0.win 2).cut (grid0.coords t) (out0_A_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)) := by
  simp only [flushed2, outsAt0_A m c t h0]
theorem flushed2_B (c : Dev nD) (t : Fin cfg0.N) (h0 : t.val % 4 = 3) :
    (dats m 0 c).flushed 2 t = (cfg0.win 2).cut (grid0.coords t) (out0_B_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  simp only [flushed2, outsAt0_B m c t h0]
theorem flushed3 (c : Dev nD) (t : Fin cfg0.N) :
    (dats m 0 c).flushed 3 t = (cfg0.win 3).cut (grid0.coords t) ((outsAt0 m c t.val t.isLt).2.1) := by
  show (cfg0.win 3).cut (grid0.coords t) ((dats m 0 c).after 3 t) = _
  rw [after0_3]
theorem flushed3_A (c : Dev nD) (t : Fin cfg0.N) (h0 : ¬t.val % 4 = 3) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)) := by
  simp only [flushed3, outsAt0_A m c t h0]
theorem flushed3_B (c : Dev nD) (t : Fin cfg0.N) (h0 : t.val % 4 = 3) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  simp only [flushed3, outsAt0_B m c t h0]
theorem flushed4 (c : Dev nD) (t : Fin cfg0.N) :
    (dats m 0 c).flushed 4 t = (cfg0.win 4).cut (grid0.coords t) ((outsAt0 m c t.val t.isLt).2.2) := by
  show (cfg0.win 4).cut (grid0.coords t) ((dats m 0 c).after 4 t) = _
  rw [after0_4]
theorem flushed4_A (c : Dev nD) (t : Fin cfg0.N) (h0 : ¬t.val % 4 = 3) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)) := by
  simp only [flushed4, outsAt0_A m c t h0]
theorem flushed4_B (c : Dev nD) (t : Fin cfg0.N) (h0 : t.val % 4 = 3) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  simp only [flushed4, outsAt0_B m c t h0]

end Cert.Proj

end

end
-- ==== Proof.ProjValue.lean ====
module

public import Idealize.ShloMosaic.Lib.Pipeline.ValueKit
public import Idealize.ShloMosaic.Lib.Pipeline.ReadBack
public import Idealize.ShloMosaic.Lib.Pointwise
public import Idealize.ShloMosaic.Lib.Tactic.CleanTypes
public import proofs.«01_k».proof.Proof.ProjRun

/-!
# The projection's tiles

The kernel multiplies the rows with a weight matrix whose columns are the given matrix's, in another order and with zeros
between; each grid point makes 768 rows by 1280 columns, and the last column tile also gives the keys and the values.
-/

set_option maxRecDepth 16384
set_option Elab.async false
set_option maxHeartbeats 2000000

@[expose] public section

noncomputable section

namespace Cert.Proj

open Idealize.ShloMosaic Idealize.ShloMosaic.TcCoe Idealize.SL.Sem
open Cert.ProjectIdeal Cert.ProjectIdeal.Gen

/-- A piece of a matrix laid out by columns, at an index. -/
theorem cols_piece {α : Type} {n W w : ℕ} (xs : List ((s : Shape) × (s.Idx → α)))
    (h : Shape.Concatenates (xs.map (·.1)) (⟨2, ![n, W]⟩ : Shape) 1) (k : ℕ) (hk : k < xs.length)
    (x : (⟨2, ![n, w]⟩ : Shape).Idx → α) (hxk : xs[k] = ⟨⟨2, ![n, w]⟩, x⟩) (pre : ℕ)
    (hpre : (((xs.take k).map (·.1)).map fun s => if h : s.rank = (⟨2, ![n, W]⟩ : Shape).rank then s.size ((1 : Fin 2).cast h.symm) else 0).sum = pre)
    (r : Fin n) (j : Fin W) (hj : pre ≤ j.val) (hj2 : j.val < pre + w) :
    concatenate (⟨2, ![n, W]⟩ : Shape) 1 xs h (ix2 r j) = x (ix2 r ⟨j.val - pre, by omega⟩) :=
  concatenate_apply_piece 1 xs h (ix2 r j) k hk _ x hxk rfl pre hpre _
    (fun b hb => match b, hb with
      | ⟨0, _⟩, _ => rfl
      | ⟨1, _⟩, hb => absurd rfl hb)
    (by show pre + (j.val - pre) = j.val; omega)

/-- A range of a matrix's columns, at an index. -/
theorem cols_slice {α : Type} {n W w : ℕ} (off : ℕ) (x : (⟨2, ![n, W]⟩ : Shape).Idx → α)
    (h : (⟨2, ![n, W]⟩ : Shape).Slices ![0, off] (⟨2, ![n, w]⟩ : Shape)) (r : Fin n) (j : Fin w) (hj : off + j.val < W) :
    extractStridedSlice (⟨2, ![n, w]⟩ : Shape) ![0, off] x h (ix2 r j) = x (ix2 r ⟨off + j.val, hj⟩) := by
  unfold extractStridedSlice
  refine congrArg x ?_
  funext a
  match a with
  | ⟨0, _⟩ => exact Fin.ext (by show 0 + r.val = r.val; omega)
  | ⟨1, _⟩ => rfl

/-- The columns of the given matrix in the kernel's order: the gates, the recurrence's inputs and its output gate, the queries,
    the keys, the values, zeros, the two small heads' columns, zeros. -/
def place (f : Fin 5456 → EReal) (j : Fin 5120) : EReal :=
  if h0 : j.val < 2048 then f ⟨3408 + (j.val - 0), by omega⟩
  else if h1 : j.val < 3584 then f ⟨1352 + (j.val - 2048), by omega⟩
  else if h2 : j.val < 4096 then f ⟨2896 + (j.val - 3584), by omega⟩
  else if h3 : j.val < 4608 then f ⟨0 + (j.val - 4096), by omega⟩
  else if h4 : j.val < 4736 then f ⟨512 + (j.val - 4608), by omega⟩
  else if h5 : j.val < 4864 then f ⟨640 + (j.val - 4736), by omega⟩
  else if h6 : j.val < 4936 then 0
  else if h7 : j.val < 4940 then f ⟨2888 + (j.val - 4936), by omega⟩
  else if h8 : j.val < 4944 then f ⟨2892 + (j.val - 4940), by omega⟩
  else 0

theorem place_sum (h : Fin 1024 → EReal) (w : Fin 1024 → Fin 5456 → EReal) (j : Fin 5120) :
    ∑ k : Fin 1024, h k * place (w k) j = place (fun q => ∑ k : Fin 1024, h k * w k q) j := by
  by_cases h0 : j.val < 2048
  · unfold place; simp only [dif_pos h0]
  by_cases h1 : j.val < 3584
  · unfold place; simp only [dif_neg h0, dif_pos h1]
  by_cases h2 : j.val < 4096
  · unfold place; simp only [dif_neg h0, dif_neg h1, dif_pos h2]
  by_cases h3 : j.val < 4608
  · unfold place; simp only [dif_neg h0, dif_neg h1, dif_neg h2, dif_pos h3]
  by_cases h4 : j.val < 4736
  · unfold place; simp only [dif_neg h0, dif_neg h1, dif_neg h2, dif_neg h3, dif_pos h4]
  by_cases h5 : j.val < 4864
  · unfold place; simp only [dif_neg h0, dif_neg h1, dif_neg h2, dif_neg h3, dif_neg h4, dif_pos h5]
  by_cases h6 : j.val < 4936
  · unfold place; simp only [dif_neg h0, dif_neg h1, dif_neg h2, dif_neg h3, dif_neg h4, dif_neg h5, dif_pos h6, mul_zero, Finset.sum_const_zero]
  by_cases h7 : j.val < 4940
  · unfold place; simp only [dif_neg h0, dif_neg h1, dif_neg h2, dif_neg h3, dif_neg h4, dif_neg h5, dif_neg h6, dif_pos h7]
  by_cases h8 : j.val < 4944
  · unfold place; simp only [dif_neg h0, dif_neg h1, dif_neg h2, dif_neg h3, dif_neg h4, dif_neg h5, dif_neg h6, dif_neg h7, dif_pos h8]
  unfold place; simp only [dif_neg h0, dif_neg h1, dif_neg h2, dif_neg h3, dif_neg h4, dif_neg h5, dif_neg h6, dif_neg h7, dif_neg h8, mul_zero, Finset.sum_const_zero]

theorem pay1_apply (x : Vec Ideal S768x1024 .f32) (w : Vec Ideal S1024x1280 .bf16) (r : Fin 768) (j : Fin 1280) :
    k0_pay1 (F := Ideal) x w (ix2 r j) = (∑ k : Fin 1024, x (ix2 r k) * w (ix2 k j) : EReal) := by
  unfold k0_pay1
  clean_types
  pointwise
theorem pay2_apply (x : Vec Ideal S768x1024 .f32) (w : Vec Ideal S1024x1280 .bf16) (r : Fin 768) (j : Fin 128) :
    k0_pay2 (F := Ideal) x w (ix2 r j) = k0_pay1 (F := Ideal) x w (ix2 r ⟨768 + j.val, by omega⟩) := by
  unfold k0_pay2
  pointwise
theorem pay3_apply (x : Vec Ideal S768x1024 .f32) (w : Vec Ideal S1024x1280 .bf16) (r : Fin 768) (j : Fin 128) :
    k0_pay3 (F := Ideal) x w (ix2 r j) = k0_pay1 (F := Ideal) x w (ix2 r ⟨896 + j.val, by omega⟩) := by
  unfold k0_pay3
  pointwise

variable (m : (ℓ : Loc nD τ sig) → Buf (Elt Ideal) ℓ) (c : Dev nD)

/-- The arrays the kernel reads. -/
abbrev hOf : Vec Ideal S33024x1024 .f32 := m ((c : Thread nD τ).loc main_arg0)
abbrev wOf : Vec Ideal S1024x5456 .f32 := m ((c : Thread nD τ).loc main_arg1)

/-- A matrix of zeros. -/
theorem zeros_apply {s : Shape} (h : S_.BroadcastsInDim s (![] : Fin 0 → Fin s.rank)) (i : s.Idx) :
    broadcastInDim s ![] h (constant (F := Ideal) S_ .f32 0x00000000#32) i = (0 : EReal) := by
  pointwise

/-- The given matrix, its columns in the kernel's order. -/
def packed (w : FVec Ideal S1024x5456 .f32) : FVec Ideal S1024x5120 .f32 :=
  concatenate S1024x5120 1
    [⟨S1024x2048, extractStridedSlice S1024x2048 ![0, 3408] w slices_S1024x5456_S1024x2048_0_3408⟩,
     ⟨S1024x1536, extractStridedSlice S1024x1536 ![0, 1352] w slices_S1024x5456_S1024x1536_0_1352⟩,
     ⟨S1024x512, extractStridedSlice S1024x512 ![0, 2896] w slices_S1024x5456_S1024x512_0_2896⟩,
     ⟨S1024x512, extractStridedSlice S1024x512 ![0, 0] w slices_S1024x5456_S1024x512_0_0⟩,
     ⟨S1024x128, extractStridedSlice S1024x128 ![0, 512] w slices_S1024x5456_S1024x128_0_512⟩,
     ⟨S1024x128, extractStridedSlice S1024x128 ![0, 640] w slices_S1024x5456_S1024x128_0_640⟩,
     ⟨S1024x72, broadcastInDim S1024x72 ![] bcast_S_S1024x72 (constant S_ .f32 0x00000000#32)⟩,
     ⟨S1024x4, extractStridedSlice S1024x4 ![0, 2888] w slices_S1024x5456_S1024x4_0_2888⟩,
     ⟨S1024x4, extractStridedSlice S1024x4 ![0, 2892] w slices_S1024x5456_S1024x4_0_2892⟩,
     ⟨S1024x48, broadcastInDim S1024x48 ![] bcast_S_S1024x48 (constant S_ .f32 0x00000000#32)⟩,
     ⟨S1024x128, broadcastInDim S1024x128 ![] bcast_S_S1024x128 (constant S_ .f32 0x00000000#32)⟩]
    concatenates_S1024x2048_S1024x1536_S1024x512_S1024x512_S1024x128_S1024x128_S1024x72_S1024x4_S1024x4_S1024x48_S1024x128_S1024x5120_d1

theorem V_packed : (V m c main_v15 : Vec Ideal S1024x5120 .bf16) = truncf .bf16 (packed (wOf m c)) bitsLt_bf16_f32 := by
  show V0 m c (Proc.devRef .tc main_v15) = _
  simp only [V0, hostOps0, List.flatten_cons, List.flatten_nil, List.append_nil, List.cons_append, List.nil_append]
  after_results <;> rfl

theorem packed_apply (w : FVec Ideal S1024x5456 .f32) (k : Fin 1024) (j : Fin 5120) :
    packed w (ix2 k j) = place (fun q => w (ix2 k q)) j := by
  unfold packed
  by_cases h0 : j.val < 2048
  · unfold place; rw [dif_pos h0]; refine (cols_piece (w := 2048) _ _ 0 (Nat.le_of_ble_eq_true rfl) _ rfl 0 rfl k j (by omega) (by omega)).trans ?_; exact cols_slice 3408 _ _ k _ _
  by_cases h1 : j.val < 3584
  · unfold place; rw [dif_neg h0, dif_pos h1]; refine (cols_piece (w := 1536) _ _ 1 (Nat.le_of_ble_eq_true rfl) _ rfl 2048 rfl k j (by omega) (by omega)).trans ?_; exact cols_slice 1352 _ _ k _ _
  by_cases h2 : j.val < 4096
  · unfold place; rw [dif_neg h0, dif_neg h1, dif_pos h2]; refine (cols_piece (w := 512) _ _ 2 (Nat.le_of_ble_eq_true rfl) _ rfl 3584 rfl k j (by omega) (by omega)).trans ?_; exact cols_slice 2896 _ _ k _ _
  by_cases h3 : j.val < 4608
  · unfold place; rw [dif_neg h0, dif_neg h1, dif_neg h2, dif_pos h3]; refine (cols_piece (w := 512) _ _ 3 (Nat.le_of_ble_eq_true rfl) _ rfl 4096 rfl k j (by omega) (by omega)).trans ?_; exact cols_slice 0 _ _ k _ _
  by_cases h4 : j.val < 4736
  · unfold place; rw [dif_neg h0, dif_neg h1, dif_neg h2, dif_neg h3, dif_pos h4]; refine (cols_piece (w := 128) _ _ 4 (Nat.le_of_ble_eq_true rfl) _ rfl 4608 rfl k j (by omega) (by omega)).trans ?_; exact cols_slice 512 _ _ k _ _
  by_cases h5 : j.val < 4864
  · unfold place; rw [dif_neg h0, dif_neg h1, dif_neg h2, dif_neg h3, dif_neg h4, dif_pos h5]; refine (cols_piece (w := 128) _ _ 5 (Nat.le_of_ble_eq_true rfl) _ rfl 4736 rfl k j (by omega) (by omega)).trans ?_; exact cols_slice 640 _ _ k _ _
  by_cases h6 : j.val < 4936
  · unfold place; rw [dif_neg h0, dif_neg h1, dif_neg h2, dif_neg h3, dif_neg h4, dif_neg h5, dif_pos h6]; refine (cols_piece (w := 72) _ _ 6 (Nat.le_of_ble_eq_true rfl) _ rfl 4864 rfl k j (by omega) (by omega)).trans ?_; exact zeros_apply _ _
  by_cases h7 : j.val < 4940
  · unfold place; rw [dif_neg h0, dif_neg h1, dif_neg h2, dif_neg h3, dif_neg h4, dif_neg h5, dif_neg h6, dif_pos h7]; refine (cols_piece (w := 4) _ _ 7 (Nat.le_of_ble_eq_true rfl) _ rfl 4936 rfl k j (by omega) (by omega)).trans ?_; exact cols_slice 2888 _ _ k _ _
  by_cases h8 : j.val < 4944
  · unfold place; rw [dif_neg h0, dif_neg h1, dif_neg h2, dif_neg h3, dif_neg h4, dif_neg h5, dif_neg h6, dif_neg h7, dif_pos h8]; refine (cols_piece (w := 4) _ _ 8 (Nat.le_of_ble_eq_true rfl) _ rfl 4940 rfl k j (by omega) (by omega)).trans ?_; exact cols_slice 2892 _ _ k _ _
  by_cases h9 : j.val < 4992
  · unfold place; rw [dif_neg h0, dif_neg h1, dif_neg h2, dif_neg h3, dif_neg h4, dif_neg h5, dif_neg h6, dif_neg h7, dif_neg h8]; refine (cols_piece (w := 48) _ _ 9 (Nat.le_of_ble_eq_true rfl) _ rfl 4944 rfl k j (by omega) (by omega)).trans ?_; exact zeros_apply _ _
  unfold place; rw [dif_neg h0, dif_neg h1, dif_neg h2, dif_neg h3, dif_neg h4, dif_neg h5, dif_neg h6, dif_neg h7, dif_neg h8]; refine (cols_piece (w := 128) _ _ 10 (Nat.le_of_ble_eq_true rfl) _ rfl 4992 rfl k j (by omega) (by omega)).trans ?_; exact zeros_apply _ _

/-- The weight matrix the kernel is given. -/
theorem V_w (k : Fin 1024) (j : Fin 5120) :
    (V m c main_v15 : Vec Ideal S1024x5120 .bf16) (ix2 k j) = place (fun q => wOf m c (ix2 k q)) j := by
  rw [V_packed]
  exact packed_apply (wOf m c) k j

/-- The tiles of each grid point. -/
theorem index_facts : ∀ t : Fin cfg0.N,
    win0_0.index t = ![t.val / 4, 0] ∧ win0_1.index t = ![0, t.val % 4] ∧ win0_2.index t = ![t.val / 4, t.val % 4]
    ∧ win0_3.index t = ![t.val / 4, 0] ∧ win0_4.index t = ![t.val / 4, 0] := by decide +kernel

theorem h_block (t : Fin cfg0.N) (r : Fin 768) (k : Fin 1024) :
    iblk m c 0 t (ix2 r k) = (hOf m c (ix2 ⟨768 * (t.val / 4) + r.val, by have := lt_of_lt_of_eq t.isLt N_0; omega⟩ k) : EReal) := by
  have hN := lt_of_lt_of_eq t.isLt N_0
  have e := index_facts t
  blk_ext! [iblk, e.1]

theorem w_block (t : Fin cfg0.N) (k : Fin 1024) (j : Fin 1280) :
    iblk m c 1 t (ix2 k j) = place (fun q => wOf m c (ix2 k q)) ⟨1280 * (t.val % 4) + j.val, by omega⟩ := by
  have hN := lt_of_lt_of_eq t.isLt N_0
  have e := index_facts t
  refine Eq.trans ?_ (V_w m c k _)
  blk_ext! [iblk, e.2.1]

/-- Row `r` of the rows against column `q` of the given matrix. -/
def dotAt (h : FVec Ideal S33024x1024 .f32) (w : FVec Ideal S1024x5456 .f32) (r : Fin 33024) (q : Fin 5456) : EReal :=
  ∑ k : Fin 1024, h (ix2 r k) * w (ix2 k q)

/-- What a point computes. -/
theorem tile_apply (t : Fin cfg0.N) (r : Fin 768) (j : Fin 1280) :
    k0_pay1 (F := Ideal) (iblk m c 0 t) (iblk m c 1 t) (ix2 r j)
      = place (dotAt (hOf m c) (wOf m c) ⟨768 * (t.val / 4) + r.val, by have := lt_of_lt_of_eq t.isLt N_0; omega⟩) ⟨1280 * (t.val % 4) + j.val, by omega⟩ :=
  (pay1_apply _ _ r j).trans
    ((Finset.sum_congr rfl fun k _ => congrArg₂ (fun a b : EReal => a * b) (h_block m c t r k) (w_block m c t k j)).trans
      (place_sum (fun k => hOf m c (ix2 ⟨768 * (t.val / 4) + r.val, by have := lt_of_lt_of_eq t.isLt N_0; omega⟩ k)) (fun k q => wOf m c (ix2 k q)) _))

/-- The three results. -/
def G2 : Vec Ideal S33024x5120 .f32 := fun i => place (dotAt (hOf m c) (wOf m c) (i 0)) (i 1)
def G3 : Vec Ideal S33024x128 .f32 := fun i => dotAt (hOf m c) (wOf m c) (i 0) ⟨512 + (i 1).val, by have : (i 1).val < 128 := (i 1).isLt; omega⟩
def G4 : Vec Ideal S33024x128 .f32 := fun i => dotAt (hOf m c) (wOf m c) (i 0) ⟨640 + (i 1).val, by have : (i 1).val < 128 := (i 1).isLt; omega⟩

theorem flushed2_pay (t : Fin cfg0.N) :
    (dats m 0 c).flushed 2 t = (cfg0.win 2).cut (grid0.coords t) (k0_pay1 (F := Ideal) (iblk m c 0 t) (iblk m c 1 t)) := by
  by_cases h0 : t.val % 4 = 3
  · rw [flushed2_B m c t h0]
    frame_out
  · rw [flushed2_A m c t h0]
    frame_out
theorem flushed3_pay (t : Fin cfg0.N) (h0 : t.val % 4 = 3) :
    (dats m 0 c).flushed 3 t = (cfg0.win 3).cut (grid0.coords t) (k0_pay2 (F := Ideal) (iblk m c 0 t) (iblk m c 1 t)) := by
  rw [flushed3_B m c t h0]
  frame_out
theorem flushed4_pay (t : Fin cfg0.N) (h0 : t.val % 4 = 3) :
    (dats m 0 c).flushed 4 t = (cfg0.win 4).cut (grid0.coords t) (k0_pay3 (F := Ideal) (iblk m c 0 t) (iblk m c 1 t)) := by
  rw [flushed4_B m c t h0]
  frame_out

theorem place_keys (f : Fin 5456 → EReal) (j : Fin 5120) (q : Fin 128) (h : j.val = 4608 + q.val) : place f j = f ⟨512 + q.val, by omega⟩ := by
  unfold place
  rw [dif_neg (by omega), dif_neg (by omega), dif_neg (by omega), dif_neg (by omega), dif_pos (by omega)]
  exact congrArg f (Fin.ext (by show 512 + (j.val - 4608) = 512 + q.val; omega))
theorem place_values (f : Fin 5456 → EReal) (j : Fin 5120) (q : Fin 128) (h : j.val = 4736 + q.val) : place f j = f ⟨640 + q.val, by omega⟩ := by
  unfold place
  rw [dif_neg (by omega), dif_neg (by omega), dif_neg (by omega), dif_neg (by omega), dif_neg (by omega), dif_pos (by omega)]
  exact congrArg f (Fin.ext (by show 640 + (j.val - 4736) = 640 + q.val; omega))

theorem flushed2_eq (t : Fin cfg0.N) (hf : (cfg0.win 2).flush t = true) :
    (dats m 0 c).flushed 2 t = ((cfg0.win 2).blk t).view.read (Elt Ideal) (G2 m c) := by
  have hN := lt_of_lt_of_eq t.isLt N_0
  have e := index_facts t
  rw [flushed2_pay m c t]
  funext y
  have hy0 : (y 0).val < 768 := (y 0).isLt
  have hy1 : (y 1).val < 1280 := (y 1).isLt
  have h0 : (((cfg0.win 2).blk t).view.emb y 0).val = t.val / 4 * 768 + (y 0).val := by
    blk_simp [e.2.2.1]
    try rfl
  have h1 : (((cfg0.win 2).blk t).view.emb y 1).val = t.val % 4 * 1280 + (y 1).val := by
    blk_simp [e.2.2.1]
    try omega
  have ey : (cfg0.win 2).xinj (grid0.coords t) y = ix2 (⟨(y 0).val, hy0⟩ : Fin 768) (⟨(y 1).val, hy1⟩ : Fin 1280) := by
    funext a
    match a with
    | ⟨0, _⟩ => rfl
    | ⟨1, _⟩ => rfl
  show k0_pay1 (F := Ideal) (iblk m c 0 t) (iblk m c 1 t) ((cfg0.win 2).xinj (grid0.coords t) y) = G2 m c (((cfg0.win 2).blk t).view.emb y)
  rw [ey]
  refine (tile_apply m c t _ _).trans ?_
  unfold G2
  refine congrArg₂ (fun r j => place (dotAt (hOf m c) (wOf m c) r) j) (Fin.ext ?_) (Fin.ext ?_)
  · show 768 * (t.val / 4) + (y 0).val = (((cfg0.win 2).blk t).view.emb y 0).val
    rw [h0]; omega
  · show 1280 * (t.val % 4) + (y 1).val = (((cfg0.win 2).blk t).view.emb y 1).val
    rw [h1]; omega

theorem flushed3_eq (t : Fin cfg0.N) (hf : (cfg0.win 3).flush t = true) :
    (dats m 0 c).flushed 3 t = ((cfg0.win 3).blk t).view.read (Elt Ideal) (G3 m c) := by
  have hN := lt_of_lt_of_eq t.isLt N_0
  have e := index_facts t
  have h3 := (flush0_3 t).mp hf
  rw [flushed3_pay m c t h3]
  funext y
  have hy0 : (y 0).val < 768 := (y 0).isLt
  have hy1 : (y 1).val < 128 := (y 1).isLt
  have h0 : (((cfg0.win 3).blk t).view.emb y 0).val = t.val / 4 * 768 + (y 0).val := by
    blk_simp [e.2.2.2.1]
    try rfl
  have h1 : (((cfg0.win 3).blk t).view.emb y 1).val = (y 1).val := by
    blk_simp [e.2.2.2.1]
    try omega
  have ey : (cfg0.win 3).xinj (grid0.coords t) y = ix2 (⟨(y 0).val, hy0⟩ : Fin 768) (⟨(y 1).val, hy1⟩ : Fin 128) := by
    funext a
    match a with
    | ⟨0, _⟩ => rfl
    | ⟨1, _⟩ => rfl
  show k0_pay2 (F := Ideal) (iblk m c 0 t) (iblk m c 1 t) ((cfg0.win 3).xinj (grid0.coords t) y) = G3 m c (((cfg0.win 3).blk t).view.emb y)
  rw [ey]
  refine ((pay2_apply _ _ _ _).trans (tile_apply m c t _ _)).trans ?_
  refine (place_keys _ _ ⟨(y 1).val, hy1⟩ (by show 1280 * (t.val % 4) + (768 + (y 1).val) = 4608 + (y 1).val; rw [h3]; omega)).trans ?_
  unfold G3
  refine congrArg₂ (fun r q => dotAt (hOf m c) (wOf m c) r q) (Fin.ext ?_) (Fin.ext ?_)
  · show 768 * (t.val / 4) + (y 0).val = (((cfg0.win 3).blk t).view.emb y 0).val
    rw [h0]; omega
  · show 512 + (y 1).val = 512 + (((cfg0.win 3).blk t).view.emb y 1).val
    rw [h1]

theorem flushed4_eq (t : Fin cfg0.N) (hf : (cfg0.win 4).flush t = true) :
    (dats m 0 c).flushed 4 t = ((cfg0.win 4).blk t).view.read (Elt Ideal) (G4 m c) := by
  have hN := lt_of_lt_of_eq t.isLt N_0
  have e := index_facts t
  have h3 := (flush0_4 t).mp hf
  rw [flushed4_pay m c t h3]
  funext y
  have hy0 : (y 0).val < 768 := (y 0).isLt
  have hy1 : (y 1).val < 128 := (y 1).isLt
  have h0 : (((cfg0.win 4).blk t).view.emb y 0).val = t.val / 4 * 768 + (y 0).val := by
    blk_simp [e.2.2.2.2]
    try rfl
  have h1 : (((cfg0.win 4).blk t).view.emb y 1).val = (y 1).val := by
    blk_simp [e.2.2.2.2]
    try omega
  have ey : (cfg0.win 4).xinj (grid0.coords t) y = ix2 (⟨(y 0).val, hy0⟩ : Fin 768) (⟨(y 1).val, hy1⟩ : Fin 128) := by
    funext a
    match a with
    | ⟨0, _⟩ => rfl
    | ⟨1, _⟩ => rfl
  show k0_pay3 (F := Ideal) (iblk m c 0 t) (iblk m c 1 t) ((cfg0.win 4).xinj (grid0.coords t) y) = G4 m c (((cfg0.win 4).blk t).view.emb y)
  rw [ey]
  refine ((pay3_apply _ _ _ _).trans (tile_apply m c t _ _)).trans ?_
  refine (place_values _ _ ⟨(y 1).val, hy1⟩ (by show 1280 * (t.val % 4) + (896 + (y 1).val) = 4736 + (y 1).val; rw [h3]; omega)).trans ?_
  unfold G4
  refine congrArg₂ (fun r q => dotAt (hOf m c) (wOf m c) r q) (Fin.ext ?_) (Fin.ext ?_)
  · show 768 * (t.val / 4) + (y 0).val = (((cfg0.win 4).blk t).view.emb y 0).val
    rw [h0]; omega
  · show 640 + (y 1).val = 640 + (((cfg0.win 4).blk t).view.emb y 1).val
    rw [h1]

/-! The arrays after the run. -/

theorem final2 : (dats m 0 c).arrAt 2 cfg0.N = G2 m c := by
  funext i
  have hN : cfg0.N = 172 := N_0
  have hi0 : (i 0).val < 33024 := (i 0).isLt
  have hi1 : (i 1).val < 5120 := (i 1).isLt
  let t : Fin cfg0.N := ⟨4 * ((i 0).val / 768) + (i 1).val / 1280, by omega⟩
  have ht : t.val = 4 * ((i 0).val / 768) + (i 1).val / 1280 := rfl
  have e := ((index_facts t).2.2.1)
  have ea : t.val / 4 = (i 0).val / 768 := by omega
  have eb : t.val % 4 = (i 1).val / 1280 := by omega
  rw [ea, eb] at e
  refine (dats m 0 c).arrAt_apply_of_mem 2 (G2 m c) (fun t hf => flushed2_eq m c t hf) _ t i t.isLt (flush0_2 t) ?_
  clear_value t
  mem_blk [e]
  omega

theorem final3 : (dats m 0 c).arrAt 3 cfg0.N = G3 m c := by
  funext i
  have hN : cfg0.N = 172 := N_0
  have hi0 : (i 0).val < 33024 := (i 0).isLt
  have hi1 : (i 1).val < 128 := (i 1).isLt
  let t : Fin cfg0.N := ⟨4 * ((i 0).val / 768) + 3, by omega⟩
  have ht : t.val = 4 * ((i 0).val / 768) + 3 := rfl
  have e := ((index_facts t).2.2.2.1)
  have ea : t.val / 4 = (i 0).val / 768 := by omega
  have eb : t.val % 4 = 3 := by omega
  rw [ea] at e
  refine (dats m 0 c).arrAt_apply_of_mem 3 (G3 m c) (fun t hf => flushed3_eq m c t hf) _ t i t.isLt ((flush0_3 t).mpr (by show (4 * ((i 0).val / 768) + 3) % 4 = 3; omega)) ?_
  clear_value t
  mem_blk [e]
  omega

theorem final4 : (dats m 0 c).arrAt 4 cfg0.N = G4 m c := by
  funext i
  have hN : cfg0.N = 172 := N_0
  have hi0 : (i 0).val < 33024 := (i 0).isLt
  have hi1 : (i 1).val < 128 := (i 1).isLt
  let t : Fin cfg0.N := ⟨4 * ((i 0).val / 768) + 3, by omega⟩
  have ht : t.val = 4 * ((i 0).val / 768) + 3 := rfl
  have e := ((index_facts t).2.2.2.2)
  have ea : t.val / 4 = (i 0).val / 768 := by omega
  have eb : t.val % 4 = 3 := by omega
  rw [ea] at e
  refine (dats m 0 c).arrAt_apply_of_mem 4 (G4 m c) (fun t hf => flushed4_eq m c t hf) _ t i t.isLt ((flush0_4 t).mpr (by show (4 * ((i 0).val / 768) + 3) % 4 = 3; omega)) ?_
  clear_value t
  mem_blk [e]
  omega

end Cert.Proj

end

end
-- ==== Proof.ProjClaim.lean ====
module

public import Idealize.ShloMosaic.Lib.Quiescent
public import proofs.«01_k».proof.Defs
public import proofs.«01_k».proof.Proof.ProjValue
public import proofs.«01_k».proof.Proof.Gen.ProjectRefIdeal.Run

/-!
# The projection: the kernel against the reference

The reference multiplies with the given matrix and splits the columns of the product; each piece is a range of columns of the
kernel's result (`ProjValue`).
-/

set_option maxRecDepth 16384
set_option Elab.async false
set_option maxHeartbeats 1000000

@[expose] public section

noncomputable section

namespace Cert.Proj.Ref

open Idealize.ShloMosaic Idealize.ShloMosaic.TcCoe Idealize.SL.Sem Idealize.ShloMosaic.StableHlo
open Cert.ProjectRefIdeal Cert.ProjectRefIdeal.Gen
open Cert.Proj (dotAt cols_slice)

/-- The product of the rows with the given matrix. -/
def prod (h : FVec Ideal S33024x1024 .f32) (w : FVec Ideal S1024x5456 .f32) : FVec Ideal S33024x5456 .f32 :=
  Host.dotGeneral dot_S33024x1024_S1024x5456_S33024x5456_1_0_0_1_n_n none h w

theorem prod_apply (h : FVec Ideal S33024x1024 .f32) (w : FVec Ideal S1024x5456 .f32) (r : Fin 33024) (q : Fin 5456) :
    prod h w (ix2 r q) = dotAt h w r q := by
  unfold prod
  clean_types
  pointwise [dotAt]

/-- A range of the product's columns. -/
theorem range_apply (h : FVec Ideal S33024x1024 .f32) (w : FVec Ideal S1024x5456 .f32) (off : ℕ) (hs : S33024x5456.Slices ![0, off] S33024x128)
    (r : Fin 33024) (j : Fin 128) (hj : off + j.val < 5456) :
    extractStridedSlice S33024x128 ![0, off] (prod h w) hs (ix2 r j) = dotAt h w r ⟨off + j.val, hj⟩ :=
  (cols_slice off (prod h w) hs r j hj).trans (prod_apply h w r _)

/-- The reference ends with its arguments unchanged and, having no semaphores, with every counter at zero. -/
theorem frame : Cert.quiescent_ProjectRefIdeal := fun m ρ _ =>
  (θ_run _ _ _).mono (fun _ h => ⟨fun c => (h c).2.2.2.2.2.2.2.2.2.2, sem_eq_zero_of_no_sems rfl _⟩) (Cert.ProjectRefIdeal.Value.run m ρ)

end Cert.Proj.Ref

namespace Cert.Proj

open Idealize.ShloMosaic Idealize.ShloMosaic.TcCoe Idealize.SL.Sem
open Cert.ProjectIdeal Cert.ProjectIdeal.Gen

/-- A piece of the reference's split is a range of columns of the kernel's packed result, where the kernel's order says so. -/
theorem piece_eq (m : (ℓ : Loc nD τ sig) → Buf (Elt Ideal) ℓ) (c : Dev nD) (h : FVec Ideal S33024x1024 .f32) (w : FVec Ideal S1024x5456 .f32)
    (hh : h = hOf m c) (hw : w = wOf m c) {n : ℕ} (there here : ℕ) (ht : there + n ≤ 5456) (hk : here + n ≤ 5120)
    (hp : ∀ (f : Fin 5456 → EReal) (j : Fin 5120) (q : Fin n), j.val = here + q.val → place f j = f ⟨there + q.val, by omega⟩)
    (hs : Cert.ProjectRefIdeal.S33024x5456.Slices ![0, there] (⟨2, ![33024, n]⟩ : Shape)) (hs' : S33024x5120.Slices ![0, here] (⟨2, ![33024, n]⟩ : Shape)) :
    extractStridedSlice (⟨2, ![33024, n]⟩ : Shape) ![0, there] (Ref.prod h w) hs = extractStridedSlice (⟨2, ![33024, n]⟩ : Shape) ![0, here] (G2 m c) hs' := by
  subst hh hw
  funext i
  obtain ⟨r, j, rfl⟩ : ∃ (r : Fin 33024) (j : Fin n), i = ix2 r j := ⟨i 0, i 1, by funext a; match a with | ⟨0, _⟩ => rfl | ⟨1, _⟩ => rfl⟩
  refine ((cols_slice there _ hs r j (by omega)).trans (Ref.prod_apply _ _ r _)).trans ?_
  refine Eq.trans ?_ (cols_slice here (G2 m c) hs' r j (by omega)).symm
  exact (hp (dotAt (hOf m c) (wOf m c) r) ⟨here + j.val, by omega⟩ j rfl).symm

/-! The kernel's order at each piece. -/

theorem place_gates (f : Fin 5456 → EReal) (j : Fin 5120) (q : Fin 2048) (h : j.val = 0 + q.val) : place f j = f ⟨3408 + q.val, by omega⟩ := by
  unfold place
  rw [dif_pos (by omega)]
  exact congrArg f (Fin.ext (by show 3408 + (j.val - 0) = 3408 + q.val; omega))
theorem place_inputs (f : Fin 5456 → EReal) (j : Fin 5120) (q : Fin 1536) (h : j.val = 2048 + q.val) : place f j = f ⟨1352 + q.val, by omega⟩ := by
  unfold place
  rw [dif_neg (by omega), dif_pos (by omega)]
  exact congrArg f (Fin.ext (by show 1352 + (j.val - 2048) = 1352 + q.val; omega))
theorem place_out_gate (f : Fin 5456 → EReal) (j : Fin 5120) (q : Fin 512) (h : j.val = 3584 + q.val) : place f j = f ⟨2896 + q.val, by omega⟩ := by
  unfold place
  rw [dif_neg (by omega), dif_neg (by omega), dif_pos (by omega)]
  exact congrArg f (Fin.ext (by show 2896 + (j.val - 3584) = 2896 + q.val; omega))
theorem place_queries (f : Fin 5456 → EReal) (j : Fin 5120) (q : Fin 512) (h : j.val = 4096 + q.val) : place f j = f ⟨0 + q.val, by omega⟩ := by
  unfold place
  rw [dif_neg (by omega), dif_neg (by omega), dif_neg (by omega), dif_pos (by omega)]
  exact congrArg f (Fin.ext (by show 0 + (j.val - 4096) = 0 + q.val; omega))
theorem place_decay (f : Fin 5456 → EReal) (j : Fin 5120) (q : Fin 4) (h : j.val = 4936 + q.val) : place f j = f ⟨2888 + q.val, by omega⟩ := by
  unfold place
  rw [dif_neg (by omega), dif_neg (by omega), dif_neg (by omega), dif_neg (by omega), dif_neg (by omega), dif_neg (by omega), dif_neg (by omega), dif_pos (by omega)]
  exact congrArg f (Fin.ext (by show 2888 + (j.val - 4936) = 2888 + q.val; omega))
theorem place_rate (f : Fin 5456 → EReal) (j : Fin 5120) (q : Fin 4) (h : j.val = 4940 + q.val) : place f j = f ⟨2892 + q.val, by omega⟩ := by
  unfold place
  rw [dif_neg (by omega), dif_neg (by omega), dif_neg (by omega), dif_neg (by omega), dif_neg (by omega), dif_neg (by omega), dif_neg (by omega), dif_neg (by omega), dif_pos (by omega)]
  exact congrArg f (Fin.ext (by show 2892 + (j.val - 4940) = 2892 + q.val; omega))

/-- The keys and the values of the reference are the kernel's. -/
theorem keys_eq (m : (ℓ : Loc nD τ sig) → Buf (Elt Ideal) ℓ) (c : Dev nD) (h : FVec Ideal S33024x1024 .f32) (w : FVec Ideal S1024x5456 .f32)
    (hh : h = hOf m c) (hw : w = wOf m c) (hs) : extractStridedSlice S33024x128 ![0, 512] (Ref.prod h w) hs = G3 m c := by
  subst hh hw
  funext i
  obtain ⟨r, j, rfl⟩ : ∃ (r : Fin 33024) (j : Fin 128), i = ix2 r j := ⟨i 0, i 1, by funext a; match a with | ⟨0, _⟩ => rfl | ⟨1, _⟩ => rfl⟩
  exact Ref.range_apply _ _ 512 hs r j (by omega)
theorem values_eq (m : (ℓ : Loc nD τ sig) → Buf (Elt Ideal) ℓ) (c : Dev nD) (h : FVec Ideal S33024x1024 .f32) (w : FVec Ideal S1024x5456 .f32)
    (hh : h = hOf m c) (hw : w = wOf m c) (hs) : extractStridedSlice S33024x128 ![0, 640] (Ref.prod h w) hs = G4 m c := by
  subst hh hw
  funext i
  obtain ⟨r, j, rfl⟩ : ∃ (r : Fin 33024) (j : Fin 128), i = ix2 r j := ⟨i 0, i 1, by funext a; match a with | ⟨0, _⟩ => rfl | ⟨1, _⟩ => rfl⟩
  exact Ref.range_apply _ _ 640 hs r j (by omega)

/-- The kernel's results are the reference's, and both programs keep their arguments. -/
theorem project_algebraic : Cert.algebraic_ProjectIdeal_ProjectRefIdeal :=
  fun m ρ m' ρ' _ hag => ⟨fun c => extractStridedSlice S33024x512 ![0, 4096] (G2 m c) slices_S33024x5120_S33024x512_0_4096,
    fun c => extractStridedSlice S33024x128 ![0, 4608] (G2 m c) slices_S33024x5120_S33024x128_0_4608,
    fun c => extractStridedSlice S33024x128 ![0, 4736] (G2 m c) slices_S33024x5120_S33024x128_0_4736,
    fun c => extractStridedSlice S33024x1536 ![0, 2048] (G2 m c) slices_S33024x5120_S33024x1536_0_2048,
    fun c => extractStridedSlice S33024x4 ![0, 4936] (G2 m c) slices_S33024x5120_S33024x4_0_4936,
    fun c => extractStridedSlice S33024x4 ![0, 4940] (G2 m c) slices_S33024x5120_S33024x4_0_4940,
    fun c => extractStridedSlice S33024x512 ![0, 3584] (G2 m c) slices_S33024x5120_S33024x512_0_3584,
    fun c => extractStridedSlice S33024x2048 ![0, 0] (G2 m c) slices_S33024x5120_S33024x2048_0_0,
    fun c => G3 m c,
    fun c => G4 m c,
    (θ_run _ _ _).mono (fun _ h c => ⟨(h c).1.trans (congrArg (extractStridedSlice S33024x512 ![0, 4096] · slices_S33024x5120_S33024x512_0_4096) (final2 m c)),
        (h c).2.1.trans (congrArg (extractStridedSlice S33024x128 ![0, 4608] · slices_S33024x5120_S33024x128_0_4608) (final2 m c)),
        (h c).2.2.1.trans (congrArg (extractStridedSlice S33024x128 ![0, 4736] · slices_S33024x5120_S33024x128_0_4736) (final2 m c)),
        (h c).2.2.2.1.trans (congrArg (extractStridedSlice S33024x1536 ![0, 2048] · slices_S33024x5120_S33024x1536_0_2048) (final2 m c)),
        (h c).2.2.2.2.1.trans (congrArg (extractStridedSlice S33024x4 ![0, 4936] · slices_S33024x5120_S33024x4_0_4936) (final2 m c)),
        (h c).2.2.2.2.2.1.trans (congrArg (extractStridedSlice S33024x4 ![0, 4940] · slices_S33024x5120_S33024x4_0_4940) (final2 m c)),
        (h c).2.2.2.2.2.2.1.trans (congrArg (extractStridedSlice S33024x512 ![0, 3584] · slices_S33024x5120_S33024x512_0_3584) (final2 m c)),
        (h c).2.2.2.2.2.2.2.1.trans (congrArg (extractStridedSlice S33024x2048 ![0, 0] · slices_S33024x5120_S33024x2048_0_0) (final2 m c)),
        (h c).2.2.2.2.2.2.2.2.1.trans (final3 m c),
        (h c).2.2.2.2.2.2.2.2.2.1.trans (final4 m c),
        (h c).2.2.2.2.2.2.2.2.2.2⟩)
      (Cert.ProjectIdeal.Value.run m ρ),
    (θ_run _ _ _).mono (fun _ h c => ⟨(h c).1.trans (piece_eq (n := 512) m c _ _ (hag c).1 (hag c).2 0 4096 (by omega) (by omega) place_queries Cert.ProjectRefIdeal.Gen.slices_S33024x5456_S33024x512_0_0 slices_S33024x5120_S33024x512_0_4096),
        (h c).2.1.trans (piece_eq (n := 128) m c _ _ (hag c).1 (hag c).2 512 4608 (by omega) (by omega) place_keys Cert.ProjectRefIdeal.Gen.slices_S33024x5456_S33024x128_0_512 slices_S33024x5120_S33024x128_0_4608),
        (h c).2.2.1.trans (piece_eq (n := 128) m c _ _ (hag c).1 (hag c).2 640 4736 (by omega) (by omega) place_values Cert.ProjectRefIdeal.Gen.slices_S33024x5456_S33024x128_0_640 slices_S33024x5120_S33024x128_0_4736),
        (h c).2.2.2.1.trans (piece_eq (n := 1536) m c _ _ (hag c).1 (hag c).2 1352 2048 (by omega) (by omega) place_inputs Cert.ProjectRefIdeal.Gen.slices_S33024x5456_S33024x1536_0_1352 slices_S33024x5120_S33024x1536_0_2048),
        (h c).2.2.2.2.1.trans (piece_eq (n := 4) m c _ _ (hag c).1 (hag c).2 2888 4936 (by omega) (by omega) place_decay Cert.ProjectRefIdeal.Gen.slices_S33024x5456_S33024x4_0_2888 slices_S33024x5120_S33024x4_0_4936),
        (h c).2.2.2.2.2.1.trans (piece_eq (n := 4) m c _ _ (hag c).1 (hag c).2 2892 4940 (by omega) (by omega) place_rate Cert.ProjectRefIdeal.Gen.slices_S33024x5456_S33024x4_0_2892 slices_S33024x5120_S33024x4_0_4940),
        (h c).2.2.2.2.2.2.1.trans (piece_eq (n := 512) m c _ _ (hag c).1 (hag c).2 2896 3584 (by omega) (by omega) place_out_gate Cert.ProjectRefIdeal.Gen.slices_S33024x5456_S33024x512_0_2896 slices_S33024x5120_S33024x512_0_3584),
        (h c).2.2.2.2.2.2.2.1.trans (piece_eq (n := 2048) m c _ _ (hag c).1 (hag c).2 3408 0 (by omega) (by omega) place_gates Cert.ProjectRefIdeal.Gen.slices_S33024x5456_S33024x2048_0_3408 slices_S33024x5120_S33024x2048_0_0),
        (h c).2.2.2.2.2.2.2.2.1.trans (keys_eq m c _ _ (hag c).1 (hag c).2 _),
        (h c).2.2.2.2.2.2.2.2.2.1.trans (values_eq m c _ _ (hag c).1 (hag c).2 _),
        (h c).2.2.2.2.2.2.2.2.2.2⟩)
      (Cert.ProjectRefIdeal.Value.run m' ρ')⟩

end Cert.Proj

end

end
-- ==== Proof.DenseValue.lean ====
module

public import Idealize.ShloMosaic.Lib.Pipeline.ValueKit
public import Idealize.ShloMosaic.Lib.Pipeline.ReadBack
public import Idealize.ShloMosaic.Lib.Pointwise
public import Idealize.ShloMosaic.Lib.Tactic.CleanTypes
public import proofs.«01_k».proof.Proof.Gen.DenseIdeal.Value

/-!
# The dense layer's tiles

A tile of 768 rows goes through the gated layer in two halves of its hidden columns, the first half's result carried to the second;
after the second half the sum is added to the scaled rows and each row normalised.
-/

set_option maxRecDepth 16384
set_option Elab.async false
set_option maxHeartbeats 2000000

@[expose] public section

noncomputable section

namespace Cert.DenseLayer

open Idealize.ShloMosaic Idealize.ShloMosaic.TcCoe Idealize.SL.Sem
open Cert.DenseIdeal Cert.DenseIdeal.Gen

/-- The gated product of one hidden column: `a · sigmoid a · b`. -/
def gated (a b : EReal) : EReal :=
  FloatOps.mulf (F := Ideal) (φ := .f32)
    (FloatOps.mulf (F := Ideal) (φ := .f32) a (FloatOps.divf (F := Ideal) (φ := .f32) (Ideal.ofBits .f32 0x3F800000#32)
      (FloatOps.addf (F := Ideal) (φ := .f32) (Ideal.ofBits .f32 0x3F800000#32)
        (FloatOps.exp (F := Ideal) (φ := .f32) (FloatOps.subf (F := Ideal) (φ := .f32) (Ideal.ofBits .f32 0x00000000#32) a))))) b

/-- The entry `k` of a row less the row's mean. -/
def centred (x : Fin 1024 → EReal) (k : Fin 1024) : EReal :=
  FloatOps.subf (F := Ideal) (φ := .f32) (x k)
    (FloatOps.divf (F := Ideal) (φ := .f32) (∑ q : Fin 1024, x q) (Ideal.ofBits .f32 0x44800000#32))

/-- The entry `j` of a normalised row. -/
def normed (x : Fin 1024 → EReal) (g b : EReal) (j : Fin 1024) : EReal :=
  FloatOps.addf (F := Ideal) (φ := .f32)
    (FloatOps.mulf (F := Ideal) (φ := .f32)
      (FloatOps.mulf (F := Ideal) (φ := .f32) (centred x j)
        (FloatOps.rsqrt (F := Ideal) (φ := .f32) (FloatOps.addf (F := Ideal) (φ := .f32)
          (FloatOps.divf (F := Ideal) (φ := .f32) (∑ k : Fin 1024, centred x k * centred x k) (Ideal.ofBits .f32 0x44800000#32))
          (Ideal.ofBits .f32 0x3727C5AC#32)))) g) b

/-- A scaled entry plus the layer's. -/
def summed (h y : EReal) : EReal :=
  FloatOps.addf (F := Ideal) (φ := .f32) (FloatOps.mulf (F := Ideal) (φ := .f32) (Ideal.ofBits .f32 0x3FB504F3#32) h) y

/-- One half of a tile's hidden columns, at an index. -/
def halfAt (x : Vec Ideal S768x1024 .bf16) (g u : Vec Ideal S1024x1408 .bf16) (d : Vec Ideal S1408x1024 .bf16)
    (r : Fin 768) (j : Fin 1024) : EReal :=
  ∑ f : Fin 1408, gated (∑ k : Fin 1024, x (ix2 r k) * g (ix2 k f)) (∑ k : Fin 1024, x (ix2 r k) * u (ix2 k f)) * d (ix2 f j)

theorem pay1_apply (x : Vec Ideal S768x1024 .bf16) (g u : Vec Ideal S1024x1408 .bf16) (d : Vec Ideal S1408x1024 .bf16)
    (r : Fin 768) (j : Fin 1024) : k0_pay1 (F := Ideal) x g u d (ix2 r j) = halfAt x g u d r j := by
  unfold k0_pay1
  clean_types
  pointwise [halfAt, gated]
theorem pay2_apply (x : Vec Ideal S768x1024 .bf16) (g u : Vec Ideal S1024x1408 .bf16) (d : Vec Ideal S1408x1024 .bf16)
    (r : Fin 768) (j : Fin 1024) : k0_pay2 (F := Ideal) x g u d (ix2 r j) = halfAt x g u d r j := by
  refine Eq.trans ?_ (pay1_apply x g u d r j)
  unfold k0_pay2
  pointwise
theorem pay3_apply (x : Vec Ideal S768x1024 .bf16) (g u : Vec Ideal S1024x1408 .bf16) (d : Vec Ideal S1408x1024 .bf16) (s : Vec Ideal S768x1024 .f32)
    (r : Fin 768) (j : Fin 1024) : k0_pay3 (F := Ideal) x g u d s (ix2 r j) = (s (ix2 r j) + halfAt x g u d r j : EReal) := by
  rw [← pay1_apply x g u d r j]
  unfold k0_pay3
  pointwise
theorem pay4_apply (h y : Vec Ideal S768x1024 .f32) (g b : Vec Ideal S1x1024 .f32) (r : Fin 768) (j : Fin 1024) :
    k0_pay4 (F := Ideal) h y g b (ix2 r j) = normed (fun k => summed (h (ix2 r k)) (y (ix2 r k))) (g (ix2 0 j)) (b (ix2 0 j)) j := by
  unfold k0_pay4
  clean_types
  pointwise [normed, centred, summed]

variable (m : (ℓ : Loc nD τ sig) → Buf (Elt Ideal) ℓ) (c : Dev nD)

/-- What the first half leaves. -/
theorem state_A (t : Fin cfg0.N) (h0 : t.val % 2 = 0) :
    (outsAt0 m c t.val t.isLt).2 = k0_pay2 (F := Ideal) (iblk m c 1 t) (iblk m c 2 t) (iblk m c 3 t) (iblk m c 4 t) := by
  rw [outsAt0_A m c t h0 (by omega) (by omega)]
  dsimp only
  frame_open
  try simp (disch := decide) only [↓ View.readCov_skip, ↓ View.readCov_cons_toLoadRect, ↓ View.readCov_fill]
  frame_out

/-- What the second half writes. -/
theorem out_B (t : Fin cfg0.N) (h1 : t.val % 2 = 1) :
    (outsAt0 m c t.val t.isLt).1 = k0_pay4 (F := Ideal) (iblk m c 0 t)
      (k0_pay3 (F := Ideal) (iblk m c 1 t) (iblk m c 2 t) (iblk m c 3 t) (iblk m c 4 t) (outsAt0 m c (t.val - 1) (by omega)).2)
      (iblk m c 5 t) (iblk m c 6 t) := by
  rw [outsAt0_B m c t (by omega) h1 h1]
  dsimp only
  frame_open
  try simp (disch := decide) only [↓ View.readCov_skip, ↓ View.readCov_cons_toLoadRect, ↓ View.readCov_fill]
  frame_out
  rw [read_unread_whole]

/-- The arrays the kernel reads. -/
abbrev hOf : Vec Ideal S33024x1024 .f32 := m ((c : Thread nD τ).loc main_arg0)
abbrev w1Of : Vec Ideal S1024x2816 .f32 := m ((c : Thread nD τ).loc main_arg1)
abbrev w3Of : Vec Ideal S1024x2816 .f32 := m ((c : Thread nD τ).loc main_arg2)
abbrev w2Of : Vec Ideal S2816x1024 .f32 := m ((c : Thread nD τ).loc main_arg3)
abbrev gOf : Vec Ideal S1024 .f32 := m ((c : Thread nD τ).loc main_arg4)
abbrev bOf : Vec Ideal S1024 .f32 := m ((c : Thread nD τ).loc main_arg5)

theorem V_h (i : S33024x1024.Idx) : (V m c main_v0 : Vec Ideal S33024x1024 .bf16) i = (hOf m c i : EReal) := by
  unfold V hostOps0
  entry_read
  rfl
theorem V_w1 (i : S1024x2816.Idx) : (V m c main_v1 : Vec Ideal S1024x2816 .bf16) i = (w1Of m c i : EReal) := by
  unfold V hostOps0
  entry_read
  rfl
theorem V_w3 (i : S1024x2816.Idx) : (V m c main_v2 : Vec Ideal S1024x2816 .bf16) i = (w3Of m c i : EReal) := by
  unfold V hostOps0
  entry_read
  rfl
theorem V_w2 (i : S2816x1024.Idx) : (V m c main_v3 : Vec Ideal S2816x1024 .bf16) i = (w2Of m c i : EReal) := by
  unfold V hostOps0
  entry_read
  rfl
theorem V_g (j : Fin 1024) : (V m c main_v4 : Vec Ideal S1x1024 .f32) (ix2 0 j) = (gOf m c (ix1 j) : EReal) := by
  unfold V hostOps0
  entry_read
  pointwise
theorem V_b (j : Fin 1024) : (V m c main_v5 : Vec Ideal S1x1024 .f32) (ix2 0 j) = (bOf m c (ix1 j) : EReal) := by
  unfold V hostOps0
  entry_read
  pointwise

/-- The tiles of each grid point. -/
theorem index_facts : ∀ t : Fin cfg0.N,
    win0_0.index t = ![t.val / 2, 0] ∧ win0_1.index t = ![t.val / 2, 0] ∧ win0_2.index t = ![0, t.val % 2]
    ∧ win0_3.index t = ![0, t.val % 2] ∧ win0_4.index t = ![t.val % 2, 0] ∧ win0_5.index t = ![0, 0] ∧ win0_6.index t = ![0, 0] := by
  decide +kernel

theorem h_block (t : Fin cfg0.N) (r : Fin 768) (k : Fin 1024) :
    iblk m c 0 t (ix2 r k) = (hOf m c (ix2 ⟨768 * (t.val / 2) + r.val, by have := lt_of_lt_of_eq t.isLt N_0; omega⟩ k) : EReal) := by
  have hN := lt_of_lt_of_eq t.isLt N_0
  have e := index_facts t
  blk_ext! [iblk, e.1]
theorem hb_block (t : Fin cfg0.N) (r : Fin 768) (k : Fin 1024) :
    iblk m c 1 t (ix2 r k) = (hOf m c (ix2 ⟨768 * (t.val / 2) + r.val, by have := lt_of_lt_of_eq t.isLt N_0; omega⟩ k) : EReal) := by
  have hN := lt_of_lt_of_eq t.isLt N_0
  have e := index_facts t
  refine Eq.trans ?_ (V_h m c _)
  blk_ext! [iblk, e.2.1]
theorem w1_block (t : Fin cfg0.N) (k : Fin 1024) (f : Fin 1408) :
    iblk m c 2 t (ix2 k f) = (w1Of m c (ix2 k ⟨1408 * (t.val % 2) + f.val, by omega⟩) : EReal) := by
  have hN := lt_of_lt_of_eq t.isLt N_0
  have e := index_facts t
  refine Eq.trans ?_ (V_w1 m c _)
  blk_ext! [iblk, e.2.2.1]
theorem w3_block (t : Fin cfg0.N) (k : Fin 1024) (f : Fin 1408) :
    iblk m c 3 t (ix2 k f) = (w3Of m c (ix2 k ⟨1408 * (t.val % 2) + f.val, by omega⟩) : EReal) := by
  have hN := lt_of_lt_of_eq t.isLt N_0
  have e := index_facts t
  refine Eq.trans ?_ (V_w3 m c _)
  blk_ext! [iblk, e.2.2.2.1]
theorem w2_block (t : Fin cfg0.N) (f : Fin 1408) (j : Fin 1024) :
    iblk m c 4 t (ix2 f j) = (w2Of m c (ix2 ⟨1408 * (t.val % 2) + f.val, by omega⟩ j) : EReal) := by
  have hN := lt_of_lt_of_eq t.isLt N_0
  have e := index_facts t
  refine Eq.trans ?_ (V_w2 m c _)
  blk_ext! [iblk, e.2.2.2.2.1]
theorem g_block (t : Fin cfg0.N) (j : Fin 1024) : iblk m c 5 t (ix2 0 j) = (gOf m c (ix1 j) : EReal) := by
  have hN := lt_of_lt_of_eq t.isLt N_0
  have e := index_facts t
  refine Eq.trans ?_ (V_g m c j)
  blk_ext! [iblk, e.2.2.2.2.2.1]
theorem b_block (t : Fin cfg0.N) (j : Fin 1024) : iblk m c 6 t (ix2 0 j) = (bOf m c (ix1 j) : EReal) := by
  have hN := lt_of_lt_of_eq t.isLt N_0
  have e := index_facts t
  refine Eq.trans ?_ (V_b m c j)
  blk_ext! [iblk, e.2.2.2.2.2.2]

/-- Hidden column `f`'s part of row `r`, at column `j`. -/
def partAt (h : FVec Ideal S33024x1024 .f32) (w1 w3 : FVec Ideal S1024x2816 .f32) (w2 : FVec Ideal S2816x1024 .f32)
    (r : Fin 33024) (j : Fin 1024) (f : Fin 2816) : EReal :=
  gated (∑ k : Fin 1024, h (ix2 r k) * w1 (ix2 k f)) (∑ k : Fin 1024, h (ix2 r k) * w3 (ix2 k f)) * w2 (ix2 f j)

/-- The layer's result: the normalised row `r`, at column `j`. -/
def rowAt (h : FVec Ideal S33024x1024 .f32) (w1 w3 : FVec Ideal S1024x2816 .f32) (w2 : FVec Ideal S2816x1024 .f32)
    (g b : FVec Ideal S1024 .f32) (r : Fin 33024) (j : Fin 1024) : EReal :=
  normed (fun k => summed (h (ix2 r k)) (∑ f : Fin 2816, partAt h w1 w3 w2 r k f)) (g (ix1 j)) (b (ix1 j)) j

/-- The half a point computes. -/
theorem half_point (t : Fin cfg0.N) (r : Fin 768) (j : Fin 1024) :
    halfAt (iblk m c 1 t) (iblk m c 2 t) (iblk m c 3 t) (iblk m c 4 t) r j
      = (∑ f : Fin 1408, partAt (hOf m c) (w1Of m c) (w3Of m c) (w2Of m c)
          ⟨768 * (t.val / 2) + r.val, by have := lt_of_lt_of_eq t.isLt N_0; omega⟩ j ⟨1408 * (t.val % 2) + f.val, by omega⟩ : EReal) := by
  unfold halfAt partAt
  refine Finset.sum_congr rfl fun f _ => ?_
  refine congrArg₂ _ (congrArg₂ gated ?_ ?_) (w2_block m c t f j)
  · exact Finset.sum_congr rfl fun i _ => congrArg₂ _ (hb_block m c t r i) (w1_block m c t i f)
  · exact Finset.sum_congr rfl fun i _ => congrArg₂ _ (hb_block m c t r i) (w3_block m c t i f)

/-- The hidden columns are two halves. -/
theorem sum_halves (g : Fin 2816 → EReal) :
    (∑ f : Fin 1408, g ⟨1408 * 0 + f.val, by omega⟩) + (∑ f : Fin 1408, g ⟨1408 * 1 + f.val, by omega⟩) = ∑ f : Fin 2816, g f := by
  rw [Fin.sum_univ_add (a := 1408) (b := 1408) g]
  refine congrArg₂ _ (Finset.sum_congr rfl fun f _ => congrArg g (Fin.ext ?_)) (Finset.sum_congr rfl fun f _ => congrArg g (Fin.ext ?_))
  · simp
  · simp [Nat.add_comm]

/-- What the carried sum is after both halves. -/
theorem both_halves (t : Fin cfg0.N) (h1 : t.val % 2 = 1) (r : Fin 768) (j : Fin 1024) :
    k0_pay3 (F := Ideal) (iblk m c 1 t) (iblk m c 2 t) (iblk m c 3 t) (iblk m c 4 t) (outsAt0 m c (t.val - 1) (by omega)).2 (ix2 r j)
      = (∑ f : Fin 2816, partAt (hOf m c) (w1Of m c) (w3Of m c) (w2Of m c)
          ⟨768 * (t.val / 2) + r.val, by have := lt_of_lt_of_eq t.isLt N_0; omega⟩ j f : EReal) := by
  have hN := lt_of_lt_of_eq t.isLt N_0
  have hp : t.val - 1 < cfg0.N := by omega
  have hA := half_point m c ⟨t.val - 1, hp⟩ r j
  have hB := half_point m c t r j
  have eA : (t.val - 1) % 2 = 0 := by omega
  have eB : (t.val - 1) / 2 = t.val / 2 := by omega
  simp only [eA, eB] at hA
  simp only [h1] at hB
  refine (pay3_apply _ _ _ _ _ r j).trans ?_
  rw [← sum_halves]
  refine congrArg₂ (fun a b : EReal => a + b) ?_ hB
  refine Eq.trans ?_ hA
  rw [state_A m c ⟨t.val - 1, hp⟩ eA]
  exact pay2_apply _ _ _ _ r j

/-- What a tile's last point writes. -/
theorem out_point (t : Fin cfg0.N) (h1 : t.val % 2 = 1) (r : Fin 768) (j : Fin 1024) :
    (outsAt0 m c t.val t.isLt).1 (ix2 r j) = rowAt (hOf m c) (w1Of m c) (w3Of m c) (w2Of m c) (gOf m c) (bOf m c)
      ⟨768 * (t.val / 2) + r.val, by have := lt_of_lt_of_eq t.isLt N_0; omega⟩ j := by
  rw [out_B m c t h1]
  refine (pay4_apply _ _ _ _ r j).trans ?_
  unfold rowAt
  rw [g_block m c t j, b_block m c t j]
  exact congrArg (fun x => normed x (gOf m c (ix1 j)) (bOf m c (ix1 j)) j)
    (funext fun k => congrArg₂ summed (h_block m c t r k) (both_halves m c t h1 r k))

/-- The array after the run. -/
theorem rows_array (r : Fin 33024) (j : Fin 1024) :
    Value.G7 m c (ix2 r j) = rowAt (hOf m c) (w1Of m c) (w3Of m c) (w2Of m c) (gOf m c) (bOf m c) r j := by
  have hp : Value.pt7Of (ix2 r j : S33024x1024.Idx) = 2 * (r.val / 768) + 1 := by
    show 2 * (1 * (r.val / 768 - 0) + 1 * (j.val / 1024 - 0)) + 1 = _
    omega
  have hlt : 2 * (r.val / 768) + 1 < cfg0.N := by rw [show cfg0.N = 86 from N_0]; omega
  have hl : Value.loc7Of (ix2 r j : S33024x1024.Idx) = ix2 (⟨r.val % 768, Nat.mod_lt _ (by decide)⟩ : Fin 768) j := by
    funext a
    apply Fin.ext
    match a with
    | ⟨0, _⟩ => rfl
    | ⟨1, _⟩ => show j.val % 1024 = j.val; omega
  unfold Value.G7
  rw [dif_pos (by rw [hp]; exact hlt), ← Value.outsAt0_sweep m c _ (by rw [hp]; exact hlt), hl]
  simp only [hp]
  refine (out_point m c ⟨2 * (r.val / 768) + 1, hlt⟩ (by show (2 * (r.val / 768) + 1) % 2 = 1; omega) _ j).trans ?_
  refine congrArg (fun r => rowAt (hOf m c) (w1Of m c) (w3Of m c) (w2Of m c) (gOf m c) (bOf m c) r j) (Fin.ext ?_)
  show 768 * ((2 * (r.val / 768) + 1) / 2) + r.val % 768 = r.val
  omega

end Cert.DenseLayer

end

end
-- ==== Proof.DenseClaim.lean ====
module

public import Idealize.ShloMosaic.Lib.Quiescent
public import proofs.«01_k».proof.Defs
public import proofs.«01_k».proof.Proof.DenseValue
public import proofs.«01_k».proof.Proof.Gen.DenseRefIdeal.Run

/-!
# The dense layer: the kernel against the reference

The reference's layer at an index is the row the kernel's tiles give (`DenseValue`).
-/

set_option maxRecDepth 16384
set_option Elab.async false
set_option maxHeartbeats 1000000

@[expose] public section

noncomputable section

namespace Cert.DenseLayer.Ref

open Idealize.ShloMosaic Idealize.ShloMosaic.TcCoe Idealize.SL.Sem Idealize.ShloMosaic.StableHlo
open Cert.DenseRefIdeal Cert.DenseRefIdeal.Gen
open Cert.DenseLayer (gated partAt rowAt normed centred summed)

/-- The scaled rows plus the gated layer. -/
def sumOf (h : FVec Ideal S33024x1024 .f32) (w1 w3 : FVec Ideal S1024x2816 .f32) (w2 : FVec Ideal S2816x1024 .f32) : FVec Ideal S33024x1024 .f32 :=
  addf (mulf (broadcastInDim S33024x1024 ![] bcast_S_S33024x1024 (constant S_ .f32 0x3FB504F3#32)) h)
    (Host.dotGeneral dot_S33024x2816_S2816x1024_S33024x1024_1_0_0_1_n_n none
      (mulf (mulf (Host.dotGeneral dot_S33024x1024_S1024x2816_S33024x2816_1_0_0_1_n_n none h w1)
        (Host.divf (broadcastInDim S33024x2816 ![] bcast_S_S33024x2816 (constant S_ .f32 0x3F800000#32))
          (addf (broadcastInDim S33024x2816 ![] bcast_S_S33024x2816 (constant S_ .f32 0x3F800000#32))
            (Host.exp (Host.negf (Host.dotGeneral dot_S33024x1024_S1024x2816_S33024x2816_1_0_0_1_n_n none h w1))))))
        (Host.dotGeneral dot_S33024x1024_S1024x2816_S33024x2816_1_0_0_1_n_n none h w3)) w2)

/-- The rows' means. -/
def meanOf (x : FVec Ideal S33024x1024 .f32) : FVec Ideal S33024x1 .f32 :=
  Host.divf (broadcastInDim S33024x1 ![0] bcast_S33024_S33024x1_0
      (Host.reduceAdd x (constant S_ .f32 0x00000000#32) reducesTo_S33024x1024_S33024_d1 h_S_))
    (broadcastInDim S33024x1 ![] bcast_S_S33024x1 (constant S_ .f32 0x44800000#32))

/-- The rows less their means. -/
def lessMean (x : FVec Ideal S33024x1024 .f32) : FVec Ideal S33024x1024 .f32 :=
  subf x (broadcastInDim S33024x1024 ![0, 1] bcast_S33024x1_S33024x1024_0_1 (meanOf x))

/-- The rows normalised. -/
def normOf (x : FVec Ideal S33024x1024 .f32) (g b : FVec Ideal S1024 .f32) : FVec Ideal S33024x1024 .f32 :=
  addf (mulf (mulf (lessMean x) (broadcastInDim S33024x1024 ![0, 1] bcast_S33024x1_S33024x1024_0_1
      (Host.rsqrt (addf (meanOf (mulf (lessMean x) (lessMean x)))
        (broadcastInDim S33024x1 ![] bcast_S_S33024x1 (constant S_ .f32 0x3727C5AC#32))))))
    (broadcastInDim S33024x1024 ![0, 1] bcast_S1x1024_S33024x1024_0_1 (broadcastInDim S1x1024 ![1] bcast_S1024_S1x1024_1 g)))
    (broadcastInDim S33024x1024 ![0, 1] bcast_S1x1024_S33024x1024_0_1 (broadcastInDim S1x1024 ![1] bcast_S1024_S1x1024_1 b))

theorem sumOf_apply (h : FVec Ideal S33024x1024 .f32) (w1 w3 : FVec Ideal S1024x2816 .f32) (w2 : FVec Ideal S2816x1024 .f32)
    (r : Fin 33024) (j : Fin 1024) : sumOf h w1 w3 w2 (ix2 r j) = summed (h (ix2 r j)) (∑ f : Fin 2816, partAt h w1 w3 w2 r j f) := by
  unfold sumOf
  clean_types
  pointwise [summed, partAt, gated]
  simp only [sub_eq_add_neg, zero_add]

theorem meanOf_apply (x : FVec Ideal S33024x1024 .f32) (r : Fin 33024) :
    meanOf x (ix2 r 0) = FloatOps.divf (F := Ideal) (φ := .f32) (∑ q : Fin 1024, x (ix2 r q) : EReal) (Ideal.ofBits .f32 0x44800000#32) := by
  unfold meanOf
  clean_types
  pointwise

theorem lessMean_apply (x : FVec Ideal S33024x1024 .f32) (r : Fin 33024) (j : Fin 1024) :
    lessMean x (ix2 r j) = centred (fun q => x (ix2 r q)) j := by
  unfold lessMean centred
  rw [← meanOf_apply]
  generalize meanOf x = y
  clean_types
  pointwise

theorem normOf_apply (x : FVec Ideal S33024x1024 .f32) (g b : FVec Ideal S1024 .f32) (r : Fin 33024) (j : Fin 1024) :
    normOf x g b (ix2 r j) = normed (fun q => x (ix2 r q)) (g (ix1 j)) (b (ix1 j)) j := by
  have e : meanOf (mulf (lessMean x) (lessMean x)) (ix2 r 0)
      = FloatOps.divf (F := Ideal) (φ := .f32) (∑ k : Fin 1024, centred (fun q => x (ix2 r q)) k * centred (fun q => x (ix2 r q)) k : EReal) (Ideal.ofBits .f32 0x44800000#32) := by
    rw [meanOf_apply]
    refine congrArg (fun s : EReal => FloatOps.divf (F := Ideal) (φ := .f32) s (Ideal.ofBits .f32 0x44800000#32)) (Finset.sum_congr rfl fun k _ => ?_)
    rw [← lessMean_apply]
    rfl
  unfold normOf normed
  rw [← e, ← lessMean_apply]
  generalize meanOf (mulf (lessMean x) (lessMean x)) = v
  generalize lessMean x = y
  clean_types
  pointwise

theorem result_apply (h : FVec Ideal S33024x1024 .f32) (w1 w3 : FVec Ideal S1024x2816 .f32) (w2 : FVec Ideal S2816x1024 .f32)
    (g b : FVec Ideal S1024 .f32) (r : Fin 33024) (j : Fin 1024) : normOf (sumOf h w1 w3 w2) g b (ix2 r j) = rowAt h w1 w3 w2 g b r j := by
  rw [normOf_apply]
  unfold rowAt
  simp only [sumOf_apply]

/-- The reference's result, from its arguments. -/
theorem result_eq (m : (ℓ : Loc nD τ sig) → Buf (Elt Ideal) ℓ) (c : Dev nD) :
    Cert.DenseRefIdeal.Value.res_main_v31 m c = normOf (sumOf (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) (m ((c.tc : Thread nD τ).loc main_arg5)) := rfl

/-- The reference ends with its arguments unchanged and, having no semaphores, with every counter at zero. -/
theorem frame : Cert.quiescent_DenseRefIdeal := fun m ρ _ =>
  (θ_run _ _ _).mono (fun _ h => ⟨fun c => (h c).2, sem_eq_zero_of_no_sems rfl _⟩) (Cert.DenseRefIdeal.Value.run m ρ)

end Cert.DenseLayer.Ref

namespace Cert.DenseLayer

open Idealize.ShloMosaic Idealize.ShloMosaic.TcCoe Idealize.SL.Sem
open Cert.DenseIdeal Cert.DenseIdeal.Gen

/-- The reference's array is the kernel's, from the same arrays. -/
theorem arrays_eq (m : (ℓ : Loc nD τ sig) → Buf (Elt Ideal) ℓ) (c : Dev nD) (h : FVec Ideal S33024x1024 .f32) (w1 w3 : FVec Ideal S1024x2816 .f32)
    (w2 : FVec Ideal S2816x1024 .f32) (g b : FVec Ideal S1024 .f32) (h0 : h = hOf m c) (h1 : w1 = w1Of m c) (h2 : w3 = w3Of m c)
    (h3 : w2 = w2Of m c) (h4 : g = gOf m c) (h5 : b = bOf m c) : Ref.normOf (Ref.sumOf h w1 w3 w2) g b = Value.G7 m c := by
  subst h0 h1 h2 h3 h4 h5
  funext i
  obtain ⟨r, j, rfl⟩ : ∃ (r : Fin 33024) (j : Fin 1024), i = ix2 r j := ⟨i 0, i 1, by funext a; match a with | ⟨0, _⟩ => rfl | ⟨1, _⟩ => rfl⟩
  exact (Ref.result_apply _ _ _ _ _ _ r j).trans (rows_array m c r j).symm

/-- The kernel's array is the reference's, and both programs keep their arguments. -/
theorem dense_algebraic : Cert.algebraic_DenseIdeal_DenseRefIdeal :=
  fun m ρ m' ρ' _ hag => ⟨fun c => Value.G7 m c, Cert.DenseIdeal.Value.run m ρ,
    (θ_run _ _ _).mono (fun _ h c => ⟨((h c).1.trans (Ref.result_eq m' c)).trans (arrays_eq m c _ _ _ _ _ _ (hag c).1 (hag c).2.1
        (hag c).2.2.1 (hag c).2.2.2.1 (hag c).2.2.2.2.1 (hag c).2.2.2.2.2), (h c).2⟩)
      (Cert.DenseRefIdeal.Value.run m' ρ')⟩

end Cert.DenseLayer

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.ScanClaim
public import proofs.«01_k».proof.Proof.ExpClaim
public import proofs.«01_k».proof.Proof.ProjClaim
public import proofs.«01_k».proof.Proof.DenseClaim
public import proofs.«01_k».proof.Proof.Gen.Experts.Launch
public import proofs.«01_k».proof.Proof.Gen.Pre_tables_ok
public import proofs.«01_k».proof.Proof.Gen.On_used_rows
public import proofs.«01_k».proof.Proof.Gen.ExpertsIdeal.Launch
public import proofs.«01_k».proof.Proof.Gen.ExpertsRefIdeal.Run
public import proofs.«01_k».proof.Proof.Gen.ExpertsIdeal.Skeleton
public import proofs.«01_k».proof.Proof.Gen.Experts.Skeleton
public import proofs.«01_k».proof.Proof.Gen.Project.Launch
public import proofs.«01_k».proof.Proof.Gen.ProjectIdeal.Launch
public import proofs.«01_k».proof.Proof.Gen.Project.Skeleton
public import proofs.«01_k».proof.Proof.Gen.ProjectIdeal.Skeleton
public import proofs.«01_k».proof.Proof.Gen.Project.Points
public import proofs.«01_k».proof.Proof.Gen.ProjectIdeal.Points
public import proofs.«01_k».proof.Proof.Gen.Project.Frame
public import proofs.«01_k».proof.Proof.Gen.ProjectIdeal.Frame
public import proofs.«01_k».proof.Proof.Gen.ProjectIdeal.Run
public import proofs.«01_k».proof.Proof.Gen.ProjectRefIdeal.Run
public import proofs.«01_k».proof.Proof.Gen.Dense.Launch
public import proofs.«01_k».proof.Proof.Gen.DenseIdeal.Launch
public import proofs.«01_k».proof.Proof.Gen.Dense.Skeleton
public import proofs.«01_k».proof.Proof.Gen.DenseIdeal.Skeleton
public import proofs.«01_k».proof.Proof.Gen.Dense.Points
public import proofs.«01_k».proof.Proof.Gen.DenseIdeal.Points
public import proofs.«01_k».proof.Proof.Gen.Dense.Frame
public import proofs.«01_k».proof.Proof.Gen.DenseIdeal.Frame
public import proofs.«01_k».proof.Proof.Gen.DenseIdeal.Value
public import proofs.«01_k».proof.Proof.Gen.DenseRefIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Experts.Gen.facts, Cert.ExpertsIdeal.Gen.facts, Cert.ExpertsRefIdeal.Gen.facts,
  Cert.Project.Gen.facts, Cert.ProjectIdeal.Gen.facts, Cert.ProjectRefIdeal.Gen.facts, Cert.Dense.Gen.facts, Cert.DenseIdeal.Gen.facts, Cert.DenseRefIdeal.Gen.facts,
  Cert.Pre_tables_ok.Gen.facts, Cert.On_used_rows.Gen.facts,
  fun m ρ _ => Cert.Kernel.Gen.frame m ρ, fun m ρ _ => Cert.KernelIdeal.Gen.frame m ρ, Cert.Scan.reference_frame,
  Cert.ExpertsIdeal.Sched.frame_bits, Cert.ExpertsIdeal.Sched.frame_ideal,
  Cert.ExpertsRefIdeal.Sched.frame, fun m ρ _ => Cert.ExpertsRefIdeal.Sched.frame m ρ trivial,
  fun m ρ _ => Cert.Project.Gen.frame m ρ, fun m ρ _ => Cert.ProjectIdeal.Gen.frame m ρ, Cert.Proj.Ref.frame,
  fun m ρ _ => Cert.Dense.Gen.frame m ρ, fun m ρ _ => Cert.DenseIdeal.Gen.frame m ρ, Cert.DenseLayer.Ref.frame,
  trivial, Cert.Scan.scan_algebraic, trivial, Cert.ExpertsIdeal.Sched.experts_algebraic,
  trivial, Cert.Proj.project_algebraic, trivial, Cert.DenseLayer.dense_algebraic⟩

end Cert.Proof

end
